-- ==== Defs.lean ====
def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradRefIdeal (m : (ℓ : Loc Cert.DgradRefIdeal.nD Cert.DgradRefIdeal.τ Cert.DgradRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_dy_finite [hPre_dy_finite : Cert.Pre_dy_finite.Facts] (m : (ℓ : Loc Cert.QuantIdeal.nD Cert.QuantIdeal.τ Cert.QuantIdeal.sig) → Buf (Elt Ideal) ℓ) : Prop :=
  ∀ c : Dev Cert.QuantIdeal.nD,
    (Cert.Pre_dy_finite.fn (F := Ideal) (m ((c.tc : Thread Cert.QuantIdeal.nD Cert.QuantIdeal.τ).loc Cert.QuantIdeal.main_arg0))) = (fun _ => 1#1)

def Pre_QuantRefIdeal (m : (ℓ : Loc Cert.QuantRefIdeal.nD Cert.QuantRefIdeal.τ Cert.QuantRefIdeal.sig) → Buf (Elt Ideal) ℓ) : Prop :=
  True

def Pre_QuantRefIdeal_dy_finite [hPre_dy_finite : Cert.Pre_dy_finite.Facts] (m : (ℓ : Loc Cert.QuantRefIdeal.nD Cert.QuantRefIdeal.τ Cert.QuantRefIdeal.sig) → Buf (Elt Ideal) ℓ) : Prop :=
  ∀ c : Dev Cert.QuantRefIdeal.nD,
    (Cert.Pre_dy_finite.fn (F := Ideal) (m ((c.tc : Thread Cert.QuantRefIdeal.nD Cert.QuantRefIdeal.τ).loc Cert.QuantRefIdeal.main_arg0))) = (fun _ => 1#1)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2))
      ∧ r.2.sem = fun _ => 0)

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1)
      ∧ r.2.mem ((c.tc : Thread Cert.Dgrad.nD Cert.Dgrad.τ).loc Cert.Dgrad.main_arg2) = m ((c.tc : Thread Cert.Dgrad.nD Cert.Dgrad.τ).loc Cert.Dgrad.main_arg2))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2))
      ∧ r.2.sem = fun _ => 0)

def quiescent_DgradRefIdeal [hDgradRefIdeal : Cert.DgradRefIdeal.Facts] : Prop :=
  ∀ (m : (ℓ : Loc Cert.DgradRefIdeal.nD Cert.DgradRefIdeal.τ Cert.DgradRefIdeal.sig) → Buf (Elt Ideal) ℓ) (g : Dev Cert.DgradRefIdeal.nD → PrngReg), Pre_DgradRefIdeal m →
    θ_run (Cert.DgradRefIdeal.defs (F := Ideal)) (onTc (τ := Cert.DgradRefIdeal.τ) (Cert.DgradRefIdeal.main (F := Ideal))) ⟨m, fun _ => 0, g⟩ (fun r => (∀ c : Dev Cert.DgradRefIdeal.nD,
      r.2.mem ((c.tc : Thread Cert.DgradRefIdeal.nD Cert.DgradRefIdeal.τ).loc Cert.DgradRefIdeal.main_arg0) = m ((c.tc : Thread Cert.DgradRefIdeal.nD Cert.DgradRefIdeal.τ).loc Cert.DgradRefIdeal.main_arg0)
      ∧ r.2.mem ((c.tc : Thread Cert.DgradRefIdeal.nD Cert.DgradRefIdeal.τ).loc Cert.DgradRefIdeal.main_arg1) = m ((c.tc : Thread Cert.DgradRefIdeal.nD Cert.DgradRefIdeal.τ).loc Cert.DgradRefIdeal.main_arg1)
      ∧ r.2.mem ((c.tc : Thread Cert.DgradRefIdeal.nD Cert.DgradRefIdeal.τ).loc Cert.DgradRefIdeal.main_arg2) = m ((c.tc : Thread Cert.DgradRefIdeal.nD Cert.DgradRefIdeal.τ).loc Cert.DgradRefIdeal.main_arg2))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantIdeal_pre_dy_finite [hQuantIdeal : Cert.QuantIdeal.Facts] [hPre_dy_finite : Cert.Pre_dy_finite.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_dy_finite m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0))
      ∧ r.2.sem = fun _ => 0)

def quiescent_QuantRefIdeal_pre_dy_finite [hQuantRefIdeal : Cert.QuantRefIdeal.Facts] [hPre_dy_finite : Cert.Pre_dy_finite.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal_dy_finite m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0))
      ∧ r.2.sem = fun _ => 0)

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)) →
    ∃ (v0 : (c : Dev Cert.WgradIdeal.nD) → Buf (Elt Ideal) ((c.tc : Thread Cert.WgradIdeal.nD Cert.WgradIdeal.τ).loc Cert.WgradIdeal.main_v2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v2) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v1) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2))

def preserves_Dgrad_DgradIdeal : Prop :=
  True

def algebraic_DgradIdeal_DgradRefIdeal [hDgradIdeal : Cert.DgradIdeal.Facts] [hDgradRefIdeal : Cert.DgradRefIdeal.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.DgradRefIdeal.nD Cert.DgradRefIdeal.τ Cert.DgradRefIdeal.sig) → Buf (Elt Ideal) ℓ) (g' : Dev Cert.DgradRefIdeal.nD → PrngReg), Pre_DgradIdeal m →
    (∀ c : Dev Cert.DgradIdeal.nD,
      m' ((c.tc : Thread Cert.DgradRefIdeal.nD Cert.DgradRefIdeal.τ).loc Cert.DgradRefIdeal.main_arg0) = m ((c.tc : Thread Cert.DgradIdeal.nD Cert.DgradIdeal.τ).loc Cert.DgradIdeal.main_arg0)
      ∧ m' ((c.tc : Thread Cert.DgradRefIdeal.nD Cert.DgradRefIdeal.τ).loc Cert.DgradRefIdeal.main_arg1) = m ((c.tc : Thread Cert.DgradIdeal.nD Cert.DgradIdeal.τ).loc Cert.DgradIdeal.main_arg1)
      ∧ m' ((c.tc : Thread Cert.DgradRefIdeal.nD Cert.DgradRefIdeal.τ).loc Cert.DgradRefIdeal.main_arg2) = m ((c.tc : Thread Cert.DgradIdeal.nD Cert.DgradIdeal.τ).loc Cert.DgradIdeal.main_arg2)) →
    ∃ (v0 : (c : Dev Cert.DgradIdeal.nD) → Buf (Elt Ideal) ((c.tc : Thread Cert.DgradIdeal.nD Cert.DgradIdeal.τ).loc Cert.DgradIdeal.main_v0)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v0) = v0 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
          ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2))
      ∧ θ_run (Cert.DgradRefIdeal.defs (F := Ideal)) (onTc (τ := Cert.DgradRefIdeal.τ) (Cert.DgradRefIdeal.main (F := Ideal))) ⟨m', fun _ => 0, g'⟩ (fun r => ∀ c : Dev Cert.DgradRefIdeal.nD,
          r.2.mem ((c.tc : Thread Cert.DgradRefIdeal.nD Cert.DgradRefIdeal.τ).loc Cert.DgradRefIdeal.main_v0) = v0 c
          ∧ r.2.mem ((c.tc : Thread Cert.DgradRefIdeal.nD Cert.DgradRefIdeal.τ).loc Cert.DgradRefIdeal.main_arg0) = m' ((c.tc : Thread Cert.DgradRefIdeal.nD Cert.DgradRefIdeal.τ).loc Cert.DgradRefIdeal.main_arg0)
          ∧ r.2.mem ((c.tc : Thread Cert.DgradRefIdeal.nD Cert.DgradRefIdeal.τ).loc Cert.DgradRefIdeal.main_arg1) = m' ((c.tc : Thread Cert.DgradRefIdeal.nD Cert.DgradRefIdeal.τ).loc Cert.DgradRefIdeal.main_arg1)
          ∧ r.2.mem ((c.tc : Thread Cert.DgradRefIdeal.nD Cert.DgradRefIdeal.τ).loc Cert.DgradRefIdeal.main_arg2) = m' ((c.tc : Thread Cert.DgradRefIdeal.nD Cert.DgradRefIdeal.τ).loc Cert.DgradRefIdeal.main_arg2))

def preserves_Quant_QuantIdeal : Prop :=
  True

def algebraic_QuantIdeal_QuantRefIdeal_pre_dy_finite [hQuantIdeal : Cert.QuantIdeal.Facts] [hQuantRefIdeal : Cert.QuantRefIdeal.Facts] [hPre_dy_finite : Cert.Pre_dy_finite.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal_dy_finite m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v1_0)) (v1 : (c : Dev Cert.QuantIdeal.nD) → Buf (Elt Ideal) ((c.tc : Thread Cert.QuantIdeal.nD Cert.QuantIdeal.τ).loc Cert.QuantIdeal.main_v1_1)) (v2 : (c : Dev Cert.QuantIdeal.nD) → Buf (Elt Ideal) ((c.tc : Thread Cert.QuantIdeal.nD Cert.QuantIdeal.τ).loc Cert.QuantIdeal.main_v1_2)) (v3 : (c : Dev Cert.QuantIdeal.nD) → Buf (Elt Ideal) ((c.tc : Thread Cert.QuantIdeal.nD Cert.QuantIdeal.τ).loc Cert.QuantIdeal.main_v1_3)) (v4 : (c : Dev Cert.QuantIdeal.nD) → Buf (Elt Ideal) ((c.tc : Thread Cert.QuantIdeal.nD Cert.QuantIdeal.τ).loc Cert.QuantIdeal.main_v1_4)) (v5 : (c : Dev Cert.QuantIdeal.nD) → Buf (Elt Ideal) ((c.tc : Thread Cert.QuantIdeal.nD Cert.QuantIdeal.τ).loc Cert.QuantIdeal.main_v1_5)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v1_0) = v0 c
          ∧ r.2.mem ((c.tc : Thread Cert.QuantIdeal.nD Cert.QuantIdeal.τ).loc Cert.QuantIdeal.main_v1_1) = v1 c
          ∧ r.2.mem ((c.tc : Thread Cert.QuantIdeal.nD Cert.QuantIdeal.τ).loc Cert.QuantIdeal.main_v1_2) = v2 c
          ∧ r.2.mem ((c.tc : Thread Cert.QuantIdeal.nD Cert.QuantIdeal.τ).loc Cert.QuantIdeal.main_v1_3) = v3 c
          ∧ r.2.mem ((c.tc : Thread Cert.QuantIdeal.nD Cert.QuantIdeal.τ).loc Cert.QuantIdeal.main_v1_4) = v4 c
          ∧ r.2.mem ((c.tc : Thread Cert.QuantIdeal.nD Cert.QuantIdeal.τ).loc Cert.QuantIdeal.main_v1_5) = v5 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v0_0) = v0 c
          ∧ r.2.mem ((c.tc : Thread Cert.QuantRefIdeal.nD Cert.QuantRefIdeal.τ).loc Cert.QuantRefIdeal.main_v0_1) = v1 c
          ∧ r.2.mem ((c.tc : Thread Cert.QuantRefIdeal.nD Cert.QuantRefIdeal.τ).loc Cert.QuantRefIdeal.main_v0_2) = v2 c
          ∧ r.2.mem ((c.tc : Thread Cert.QuantRefIdeal.nD Cert.QuantRefIdeal.τ).loc Cert.QuantRefIdeal.main_v0_3) = v3 c
          ∧ r.2.mem ((c.tc : Thread Cert.QuantRefIdeal.nD Cert.QuantRefIdeal.τ).loc Cert.QuantRefIdeal.main_v0_4) = v4 c
          ∧ r.2.mem ((c.tc : Thread Cert.QuantRefIdeal.nD Cert.QuantRefIdeal.τ).loc Cert.QuantRefIdeal.main_v0_5) = v5 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0))

def Claim : Prop :=
  ∃ (hWgrad : Cert.Wgrad.Facts) (hWgradIdeal : Cert.WgradIdeal.Facts) (hWgradRefIdeal : Cert.WgradRefIdeal.Facts) (hDgrad : Cert.Dgrad.Facts) (hDgradIdeal : Cert.DgradIdeal.Facts) (hDgradRefIdeal : Cert.DgradRefIdeal.Facts) (hQuant : Cert.Quant.Facts) (hQuantIdeal : Cert.QuantIdeal.Facts) (hQuantRefIdeal : Cert.QuantRefIdeal.Facts) (hPre_dy_finite : Cert.Pre_dy_finite.Facts),
    quiescent_Wgrad (hWgrad := hWgrad)
    ∧ quiescent_WgradIdeal (hWgradIdeal := hWgradIdeal)
    ∧ quiescent_WgradRefIdeal (hWgradRefIdeal := hWgradRefIdeal)
    ∧ quiescent_Dgrad (hDgrad := hDgrad)
    ∧ quiescent_DgradIdeal (hDgradIdeal := hDgradIdeal)
    ∧ quiescent_DgradRefIdeal (hDgradRefIdeal := hDgradRefIdeal)
    ∧ quiescent_Quant (hQuant := hQuant)
    ∧ quiescent_QuantIdeal (hQuantIdeal := hQuantIdeal)
    ∧ quiescent_QuantIdeal_pre_dy_finite (hQuantIdeal := hQuantIdeal) (hPre_dy_finite := hPre_dy_finite)
    ∧ quiescent_QuantRefIdeal (hQuantRefIdeal := hQuantRefIdeal)
    ∧ quiescent_QuantRefIdeal_pre_dy_finite (hQuantRefIdeal := hQuantRefIdeal) (hPre_dy_finite := hPre_dy_finite)
    ∧ preserves_Wgrad_WgradIdeal
    ∧ algebraic_WgradIdeal_WgradRefIdeal (hWgradIdeal := hWgradIdeal) (hWgradRefIdeal := hWgradRefIdeal)
    ∧ preserves_Dgrad_DgradIdeal
    ∧ algebraic_DgradIdeal_DgradRefIdeal (hDgradIdeal := hDgradIdeal) (hDgradRefIdeal := hDgradRefIdeal)
    ∧ preserves_Quant_QuantIdeal
    ∧ algebraic_QuantIdeal_QuantRefIdeal_pre_dy_finite (hQuantIdeal := hQuantIdeal) (hQuantRefIdeal := hQuantRefIdeal) (hPre_dy_finite := hPre_dy_finite)
-- ==== Pre_dy_finite.lean ====
abbrev S3x2048x4608 : Shape := ⟨3, ![3, 2048, 4608]⟩
abbrev S_ : Shape := ⟨0, ![]⟩

class Facts : Prop where
  bcast_S_S3x2048x4608 : S_.BroadcastsInDim S3x2048x4608 (![] : Fin 0 → Fin S3x2048x4608.rank)
  reducesTo_S3x2048x4608_S_d0_1_2 : S3x2048x4608.ReducesTo [0, 1, 2] S_
  h_S_ : 0 < S_.numel

variable [Facts]

def fn {F : FTy → Type} [FloatOps F] (main_arg0 : FVec F S3x2048x4608 .bf16) : IVec S_ 1 :=
  let main_v0 : FVec F S3x2048x4608 .bf16 := Host.absf main_arg0
  let main_cst : FVec F S_ .bf16 := constant S_ .bf16 0x7F7F#16
  let main_v1 : FVec F S3x2048x4608 .bf16 := broadcastInDim S3x2048x4608 ![] bcast_S_S3x2048x4608 main_cst
  let main_v2 : IVec S3x2048x4608 1 := cmpf .ole main_v0 main_v1
  let main_c : IVec S_ 1 := constantI S_ 1 1#1
  let main_v3 : IVec S_ 1 := (fun x v => Host.reduce IntOp.andi x v reducesTo_S3x2048x4608_S_d0_1_2 h_S_) main_v2 main_c
  main_v3
-- ==== Wgrad.lean ====
abbrev S3x2048x12288 : Shape := ⟨3, ![3, 2048, 12288]⟩
abbrev S3x64x12288 : Shape := ⟨3, ![3, 64, 12288]⟩
abbrev S6144x4608 : Shape := ⟨2, ![6144, 4608]⟩
abbrev S6144x12288 : Shape := ⟨2, ![6144, 12288]⟩
abbrev S192x12288 : Shape := ⟨2, ![192, 12288]⟩
abbrev S12288x4608 : Shape := ⟨2, ![12288, 4608]⟩
abbrev S6144x512 : Shape := ⟨2, ![6144, 512]⟩
abbrev S192x512 : Shape := ⟨2, ![192, 512]⟩
abbrev S512x512 : Shape := ⟨2, ![512, 512]⟩
abbrev S512x6144 : Shape := ⟨2, ![512, 6144]⟩
abbrev S8x512 : Shape := ⟨2, ![8, 512]⟩
abbrev S32x512 : Shape := ⟨2, ![32, 512]⟩
abbrev S1x512 : Shape := ⟨2, ![1, 512]⟩
abbrev S256x512 : Shape := ⟨2, ![256, 512]⟩
abbrev S512x256 : Shape := ⟨2, ![512, 256]⟩

abbrev nBuf : Space → Nat
  | .hbm => 6
  | .vmem => 9
  | .smem => 0
  | _ => 0

abbrev bufTy : (tb : Table) → Fin (tcTables nBuf tb) → BufTy
  | .hbm, ⟨0, _⟩ => ⟨S3x2048x12288, .fp8e4m3⟩
  | .hbm, ⟨1, _⟩ => ⟨S3x64x12288, .i8⟩
  | .hbm, ⟨2, _⟩ => ⟨S6144x4608, .bf16⟩
  | .hbm, ⟨3, _⟩ => ⟨S6144x12288, .fp8e4m3⟩
  | .hbm, ⟨4, _⟩ => ⟨S192x12288, .i8⟩
  | .hbm, ⟨5, _⟩ => ⟨S12288x4608, .f32⟩
  | .local _ .vmem, ⟨0, _⟩ => ⟨S6144x512, .fp8e4m3⟩
  | .local _ .vmem, ⟨1, _⟩ => ⟨S6144x512, .fp8e4m3⟩
  | .local _ .vmem, ⟨2, _⟩ => ⟨S192x512, .i8⟩
  | .local _ .vmem, ⟨3, _⟩ => ⟨S192x512, .i8⟩
  | .local _ .vmem, ⟨4, _⟩ => ⟨S6144x512, .bf16⟩
  | .local _ .vmem, ⟨5, _⟩ => ⟨S6144x512, .bf16⟩
  | .local _ .vmem, ⟨6, _⟩ => ⟨S512x512, .f32⟩
  | .local _ .vmem, ⟨7, _⟩ => ⟨S512x512, .f32⟩
  | .local _ .vmem, ⟨8, _⟩ => ⟨S512x6144, .bf16⟩
  | _, _ => ⟨S3x2048x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S6144x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== WgradRefIdeal.lean ====
abbrev S3x2048x12288 : Shape := ⟨3, ![3, 2048, 12288]⟩
abbrev S3x64x12288 : Shape := ⟨3, ![3, 64, 12288]⟩
abbrev S6144x4608 : Shape := ⟨2, ![6144, 4608]⟩
abbrev S3x2048x4608 : Shape := ⟨3, ![3, 2048, 4608]⟩
abbrev S12288x4608 : Shape := ⟨2, ![12288, 4608]⟩
abbrev S3x64x32x12288 : Shape := ⟨4, ![3, 64, 32, 12288]⟩
abbrev S3x64x1x12288 : Shape := ⟨4, ![3, 64, 1, 12288]⟩

abbrev nBuf : Space → Nat
  | .hbm => 5
  | .vmem => 4
  | .smem => 0
  | _ => 0

abbrev bufTy : (tb : Table) → Fin (tcTables nBuf tb) → BufTy
  | .hbm, ⟨0, _⟩ => ⟨S3x2048x12288, .fp8e4m3⟩
  | .hbm, ⟨1, _⟩ => ⟨S3x64x12288, .i8⟩
  | .hbm, ⟨2, _⟩ => ⟨S6144x4608, .bf16⟩
  | .hbm, ⟨3, _⟩ => ⟨S3x2048x4608, .bf16⟩
  | .hbm, ⟨4, _⟩ => ⟨S12288x4608, .f32⟩
  | .local _ .vmem, ⟨0, _⟩ => ⟨S3x2048x12288, .fp8e4m3⟩
  | .local _ .vmem, ⟨1, _⟩ => ⟨S3x64x12288, .i8⟩
  | .local _ .vmem, ⟨2, _⟩ => ⟨S3x2048x4608, .bf16⟩
  | .local _ .vmem, ⟨3, _⟩ => ⟨S12288x4608, .f32⟩
  | _, _ => ⟨S3x2048x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x2048x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x64x12288 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Dgrad.lean ====
abbrev S6144x4608 : Shape := ⟨2, ![6144, 4608]⟩
abbrev S12288x4608 : Shape := ⟨2, ![12288, 4608]⟩
abbrev S12288x144 : Shape := ⟨2, ![12288, 144]⟩
abbrev S6144x12288 : Shape := ⟨2, ![6144, 12288]⟩
abbrev S1024x4608 : Shape := ⟨2, ![1024, 4608]⟩
abbrev S512x4608 : Shape := ⟨2, ![512, 4608]⟩
abbrev S512x144 : Shape := ⟨2, ![512, 144]⟩
abbrev S1024x512 : Shape := ⟨2, ![1024, 512]⟩
abbrev S256x144 : Shape := ⟨2, ![256, 144]⟩
abbrev S256x112 : Shape := ⟨2, ![256, 112]⟩
abbrev S256x256 : Shape := ⟨2, ![256, 256]⟩
abbrev S256x128 : Shape := ⟨2, ![256, 128]⟩
abbrev S256x128x1 : Shape := ⟨3, ![256, 128, 1]⟩

abbrev nBuf : Space → Nat
  | .hbm => 4
  | .vmem => 9
  | .smem => 0
  | _ => 0

abbrev bufTy : (tb : Table) → Fin (tcTables nBuf tb) → BufTy
  | .hbm, ⟨0, _⟩ => ⟨S6144x4608, .bf16⟩
  | .hbm, ⟨1, _⟩ => ⟨S12288x4608, .fp8e4m3⟩
  | .hbm, ⟨2, _⟩ => ⟨S12288x144, .i8⟩
  | .hbm, ⟨3, _⟩ => ⟨S6144x12288, .bf16⟩
  | .local _ .vmem, ⟨0, _⟩ => ⟨S1024x4608, .bf16⟩
  | .local _ .vmem, ⟨1, _⟩ => ⟨S1024x4608, .bf16⟩
  | .local _ .vmem, ⟨2, _⟩ => ⟨S512x4608, .fp8e4m3⟩
  | .local _ .vmem, ⟨3, _⟩ => ⟨S512x4608, .fp8e4m3⟩
  | .local _ .vmem, ⟨4, _⟩ => ⟨S512x144, .i8⟩
  | .local _ .vmem, ⟨5, _⟩ => ⟨S512x144, .i8⟩
  | .local _ .vmem, ⟨6, _⟩ => ⟨S1024x512, .bf16⟩
  | .local _ .vmem, ⟨7, _⟩ => ⟨S1024x512, .bf16⟩
  | .local _ .vmem, ⟨8, _⟩ => ⟨S512x4608, .bf16⟩
  | _, _ => ⟨S6144x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4608 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x144 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DgradRefIdeal.lean ====
abbrev S6144x4608 : Shape := ⟨2, ![6144, 4608]⟩
abbrev S12288x4608 : Shape := ⟨2, ![12288, 4608]⟩
abbrev S12288x144 : Shape := ⟨2, ![12288, 144]⟩
abbrev S6144x12288 : Shape := ⟨2, ![6144, 12288]⟩
abbrev S12288x144x32 : Shape := ⟨3, ![12288, 144, 32]⟩
abbrev S12288x144x1 : Shape := ⟨3, ![12288, 144, 1]⟩

abbrev nBuf : Space → Nat
  | .hbm => 4
  | .vmem => 4
  | .smem => 0
  | _ => 0

abbrev bufTy : (tb : Table) → Fin (tcTables nBuf tb) → BufTy
  | .hbm, ⟨0, _⟩ => ⟨S6144x4608, .bf16⟩
  | .hbm, ⟨1, _⟩ => ⟨S12288x4608, .fp8e4m3⟩
  | .hbm, ⟨2, _⟩ => ⟨S12288x144, .i8⟩
  | .hbm, ⟨3, _⟩ => ⟨S6144x12288, .bf16⟩
  | .local _ .vmem, ⟨0, _⟩ => ⟨S6144x4608, .bf16⟩
  | .local _ .vmem, ⟨1, _⟩ => ⟨S12288x4608, .fp8e4m3⟩
  | .local _ .vmem, ⟨2, _⟩ => ⟨S12288x144, .i8⟩
  | .local _ .vmem, ⟨3, _⟩ => ⟨S6144x12288, .bf16⟩
  | _, _ => ⟨S6144x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6144x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x12288 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Quant.lean ====
abbrev S3x2048x4608 : Shape := ⟨3, ![3, 2048, 4608]⟩
abbrev S6144x4608 : Shape := ⟨2, ![6144, 4608]⟩
abbrev S6144x144 : Shape := ⟨2, ![6144, 144]⟩
abbrev S24x8x4608 : Shape := ⟨3, ![24, 8, 4608]⟩
abbrev S256x4608 : Shape := ⟨2, ![256, 4608]⟩
abbrev S256x144 : Shape := ⟨2, ![256, 144]⟩
abbrev S1x8x4608 : Shape := ⟨3, ![1, 8, 4608]⟩
abbrev S256x256 : Shape := ⟨2, ![256, 256]⟩
abbrev S32x4608 : Shape := ⟨2, ![32, 4608]⟩
abbrev S4608 : Shape := ⟨1, ![4608]⟩
abbrev S1x4608 : Shape := ⟨2, ![1, 4608]⟩
abbrev S1x1x4608 : Shape := ⟨3, ![1, 1, 4608]⟩
abbrev S1x4x4608 : Shape := ⟨3, ![1, 4, 4608]⟩
abbrev S256x128 : Shape := ⟨2, ![256, 128]⟩
abbrev S128x256 : Shape := ⟨2, ![128, 256]⟩
abbrev S4x32x256 : Shape := ⟨3, ![4, 32, 256]⟩
abbrev S4x256 : Shape := ⟨2, ![4, 256]⟩
abbrev S256x128x1 : Shape := ⟨3, ![256, 128, 1]⟩

abbrev nBuf : Space → Nat
  | .hbm => 8
  | .vmem => 15
  | .smem => 0
  | _ => 0

abbrev bufTy : (tb : Table) → Fin (tcTables nBuf tb) → BufTy
  | .hbm, ⟨0, _⟩ => ⟨S3x2048x4608, .bf16⟩
  | .hbm, ⟨1, _⟩ => ⟨S6144x4608, .bf16⟩
  | .hbm, ⟨2, _⟩ => ⟨S6144x4608, .fp8e4m3⟩
  | .hbm, ⟨3, _⟩ => ⟨S6144x144, .i8⟩
  | .hbm, ⟨4, _⟩ => ⟨S6144x4608, .fp8e4m3⟩
  | .hbm, ⟨5, _⟩ => ⟨S24x8x4608, .i8⟩
  | .hbm, ⟨6, _⟩ => ⟨S6144x4608, .bf16⟩
  | .hbm, ⟨7, _⟩ => ⟨S6144x4608, .bf16⟩
  | .local _ .vmem, ⟨0, _⟩ => ⟨S256x4608, .bf16⟩
  | .local _ .vmem, ⟨1, _⟩ => ⟨S256x4608, .bf16⟩
  | .local _ .vmem, ⟨2, _⟩ => ⟨S256x4608, .fp8e4m3⟩
  | .local _ .vmem, ⟨3, _⟩ => ⟨S256x4608, .fp8e4m3⟩
  | .local _ .vmem, ⟨4, _⟩ => ⟨S256x144, .i8⟩
  | .local _ .vmem, ⟨5, _⟩ => ⟨S256x144, .i8⟩
  | .local _ .vmem, ⟨6, _⟩ => ⟨S256x4608, .fp8e4m3⟩
  | .local _ .vmem, ⟨7, _⟩ => ⟨S256x4608, .fp8e4m3⟩
  | .local _ .vmem, ⟨8, _⟩ => ⟨S1x8x4608, .i8⟩
  | .local _ .vmem, ⟨9, _⟩ => ⟨S1x8x4608, .i8⟩
  | .local _ .vmem, ⟨10, _⟩ => ⟨S256x4608, .bf16⟩
  | .local _ .vmem, ⟨11, _⟩ => ⟨S256x4608, .bf16⟩
  | .local _ .vmem, ⟨12, _⟩ => ⟨S256x4608, .bf16⟩
  | .local _ .vmem, ⟨13, _⟩ => ⟨S256x4608, .bf16⟩
  | .local _ .vmem, ⟨14, _⟩ => ⟨S256x256, .f32⟩
  | _, _ => ⟨S3x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4608 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x144 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4608 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4608 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4608 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QuantRefIdeal.lean ====
abbrev S3x2048x4608 : Shape := ⟨3, ![3, 2048, 4608]⟩
abbrev S6144x4608 : Shape := ⟨2, ![6144, 4608]⟩
abbrev S6144x144 : Shape := ⟨2, ![6144, 144]⟩
abbrev S24x8x4608 : Shape := ⟨3, ![24, 8, 4608]⟩
abbrev S3x2048x144x32 : Shape := ⟨4, ![3, 2048, 144, 32]⟩
abbrev S3x2048x144 : Shape := ⟨3, ![3, 2048, 144]⟩
abbrev S3x2048x144x1 : Shape := ⟨4, ![3, 2048, 144, 1]⟩
abbrev S3x2048x144x1x254 : Shape := ⟨5, ![3, 2048, 144, 1, 254]⟩
abbrev S3x2048x144x1x1 : Shape := ⟨5, ![3, 2048, 144, 1, 1]⟩
abbrev S3x64x32x4608 : Shape := ⟨4, ![3, 64, 32, 4608]⟩
abbrev S3x64x4608 : Shape := ⟨3, ![3, 64, 4608]⟩
abbrev S3x64x1x4608 : Shape := ⟨4, ![3, 64, 1, 4608]⟩
abbrev S3x64x1x4608x254 : Shape := ⟨5, ![3, 64, 1, 4608, 254]⟩
abbrev S3x64x1x4608x1 : Shape := ⟨5, ![3, 64, 1, 4608, 1]⟩

abbrev nBuf : Space → Nat
  | .hbm => 7
  | .vmem => 7
  | .smem => 0
  | _ => 0

abbrev bufTy : (tb : Table) → Fin (tcTables nBuf tb) → BufTy
  | .hbm, ⟨0, _⟩ => ⟨S3x2048x4608, .bf16⟩
  | .hbm, ⟨1, _⟩ => ⟨S6144x4608, .fp8e4m3⟩
  | .hbm, ⟨2, _⟩ => ⟨S6144x144, .i8⟩
  | .hbm, ⟨3, _⟩ => ⟨S6144x4608, .fp8e4m3⟩
  | .hbm, ⟨4, _⟩ => ⟨S24x8x4608, .i8⟩
  | .hbm, ⟨5, _⟩ => ⟨S6144x4608, .bf16⟩
  | .hbm, ⟨6, _⟩ => ⟨S6144x4608, .bf16⟩
  | .local _ .vmem, ⟨0, _⟩ => ⟨S3x2048x4608, .bf16⟩
  | .local _ .vmem, ⟨1, _⟩ => ⟨S6144x4608, .fp8e4m3⟩
  | .local _ .vmem, ⟨2, _⟩ => ⟨S6144x144, .i8⟩
  | .local _ .vmem, ⟨3, _⟩ => ⟨S6144x4608, .fp8e4m3⟩
  | .local _ .vmem, ⟨4, _⟩ => ⟨S24x8x4608, .i8⟩
  | .local _ .vmem, ⟨5, _⟩ => ⟨S6144x4608, .bf16⟩
  | .local _ .vmem, ⟨6, _⟩ => ⟨S6144x4608, .bf16⟩
  | _, _ => ⟨S3x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x2048x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x8x4608 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x4608 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
module

public import Idealize.ShloMosaic.Lib.Pipeline.ValueKit

@[expose] public section

set_option maxRecDepth 16384

noncomputable section

namespace Cert.Scale

open Idealize.ShloMosaic

/-- The number an E8M0 byte stands for in the kernel: the byte moved to the exponent field of a binary32 word. -/
def pow2 (b : BitVec 8) : EReal := Ideal.ofBits .f32 ((b.setWidth 32) <<< 23)

/-- The word's sign bit is clear, its exponent field is the byte and its significand field is zero. -/
theorem fields : ∀ b : BitVec 8, ((b.setWidth 32 <<< 23).extractLsb' (8 + 23) 1 == 1#1) = false
    ∧ ((b.setWidth 32 <<< 23).extractLsb' 23 8).toNat = b.toNat ∧ ((b.setWidth 32 <<< 23).extractLsb' 0 23).toNat = 0 := by
  decide +kernel

/-- The kernel's number: infinity for the byte 255, zero for the byte 0, else two to the power of the byte less 127. -/
theorem pow2_eq (b : BitVec 8) :
    pow2 b = if b.toNat = 255 then ⊤ else if b.toNat = 0 then 0 else (((2 : ℝ) ^ ((b.toNat : ℤ) - 127) : ℝ) : EReal) := by
  obtain ⟨h1, h2, h3⟩ := fields b
  show Ideal.ieee 8 23 (b.setWidth 32 <<< 23) = _
  unfold Ideal.ieee
  simp only [h1, h2, h3]
  norm_num
  split
  · rfl
  · split
    · rfl
    · rw [← EReal.coe_mul]
      refine congrArg Real.toEReal ?_
      rw [show (8388608 : ℝ) = (2 : ℝ) ^ (23 : ℤ) by norm_num, ← zpow_add₀ (by norm_num)]
      exact congrArg (fun z : ℤ => (2 : ℝ) ^ z) (by omega)

/-- The reference's number for an E8M0 byte: the exponent is the byte less 127; below −126 the power is zero, above 127
    it is infinity, between them it is two to the exponent. -/
def refPow2 (b : BitVec 8) : EReal :=
  Scalar.select (IntOp.cmpi .slt (b.setWidth 32 - 127#32) 4294967170#32) (0 : EReal)
    (Scalar.select (IntOp.cmpi .sgt (b.setWidth 32 - 127#32) 127#32) (Ideal.ofBits .f32 0x7F800000#32)
      (Ideal.exp2 (((b.setWidth 32 - 127#32).toInt : ℝ) : EReal)))

/-- The reference's comparisons and exponent for every byte. -/
theorem words : ∀ b : BitVec 8, IntOp.cmpi .slt (b.setWidth 32 - 127#32) 4294967170#32 = (if b.toNat = 0 then 1#1 else 0#1)
    ∧ IntOp.cmpi .sgt (b.setWidth 32 - 127#32) 127#32 = (if b.toNat = 255 then 1#1 else 0#1)
    ∧ (b.setWidth 32 - 127#32).toInt = (b.toNat : ℤ) - 127 := by
  decide +kernel

/-- The binary32 word of infinity. -/
theorem inf_eq : Ideal.ofBits .f32 0x7F800000#32 = (⊤ : EReal) := by
  show Ideal.ieee 8 23 (0x7F800000#32) = ⊤
  unfold Ideal.ieee
  simp

/-- The reference's number is the kernel's, for every byte. -/
theorem refPow2_eq (b : BitVec 8) : refPow2 b = pow2 b := by
  obtain ⟨h1, h2, h3⟩ := words b
  rw [pow2_eq, refPow2, h1, h2, h3, inf_eq]
  by_cases h0 : b.toNat = 0
  · simp [h0, Scalar.select]
  · by_cases h255 : b.toNat = 255
    · simp [h255, Scalar.select]
    · simp only [h0, h255, if_false]
      rw [Ideal.exp2_coe]
      simp only [Scalar.select, show ((0#1 : BitVec 1) = 1) = False by decide, if_false]
      exact congrArg Real.toEReal (Real.rpow_intCast 2 _)

/-- A product with the reference's number in it, the choice of zero drawn out of the product. -/
theorem refPow2_term (b : BitVec 8) (x d : EReal) :
    Scalar.select (IntOp.cmpi .slt (IntOp.subi (b.setWidth 32) 127#32) 4294967170#32) (0 : EReal)
      (x * Scalar.select (IntOp.cmpi .sgt (IntOp.subi (b.setWidth 32) 127#32) 127#32) (Ideal.ofBits .f32 2139095040#32)
        (FloatOps.exp2 (F := Ideal) (φ := .f32) (FloatOps.sitofp .f32 (IntOp.subi (b.setWidth 32) 127#32))) * d)
      = x * pow2 b * d := by
  rw [← refPow2_eq]
  unfold refPow2
  by_cases h : IntOp.cmpi .slt (b.setWidth 32 - 127#32) 4294967170#32 = 1
  · show Scalar.select (IntOp.cmpi .slt (b.setWidth 32 - 127#32) 4294967170#32) _ _ = _
    rw [h]
    simp [Scalar.select]
  · show Scalar.select (IntOp.cmpi .slt (b.setWidth 32 - 127#32) 4294967170#32) _ _ = _
    simp only [Scalar.select]
    rw [if_neg h, if_neg h]
    rfl

end Cert.Scale

end
-- ==== Proof.WgradTile.lean ====
module

public import proofs.«01_k».proof.Proof.Gen.WgradIdeal.Value
public import proofs.«01_k».proof.Proof.Scale

@[expose] public section

set_option maxRecDepth 16384

noncomputable section

namespace Cert.WgradIdeal.Value

open Cert.WgradIdeal Cert.WgradIdeal.Gen Idealize.ShloMosaic Idealize.ShloMosaic.TcCoe Idealize.SL.Sem Cert.Scale
open Idealize.ShloMosaic.Pipeline (Dat)

/-- The kernel's powers of two of eight rows of scale bytes. -/
def scaleRows (s : Vec Ideal S8x512 .i8) : FVec Ideal S8x512 .bf16 := k0_pay3 (F := Ideal) s

/-- Entry by entry, `scaleRows` is the number the byte stands for. -/
theorem scaleRows_apply (s : Vec Ideal S8x512 .i8) (i : S8x512.Idx) : scaleRows s i = pow2 (s i) := by
  idx_vars i
  pointwise [scaleRows, k0_pay3, pow2]
  rfl

/-- One tile of 32 rows of codes widened. -/
def wide (a : Vec Ideal S32x512 .fp8e4m3) : FVec Ideal S32x512 .bf16 :=
  extf .bf16 (shapeCast S32x512 a shapeCasts_S32x512_S32x512) bitsLt_fp8e4m3_bf16

/-- One row of scales under every row of a tile. -/
def under (S : FVec Ideal S1x512 .bf16) : FVec Ideal S32x512 .bf16 := broadcastTo S32x512 S broadcasts_S1x512_S32x512

/-- What the kernel stores for 256 rows of codes and their eight rows of scale bytes: each tile of 32 rows times its
    row of scales, the eight tiles stacked and transposed. -/
def tile (s : Vec Ideal S8x512 .i8) (a0 a1 a2 a3 a4 a5 a6 a7 : Vec Ideal S32x512 .fp8e4m3) : FVec Ideal S512x256 .bf16 :=
  shapeCast S512x256 (transpose S512x256 [1, 0] (concatenate S256x512 0 [
    ⟨S32x512, mulf (wide a0) (under (extractStridedSlice S1x512 ![0, 0] (scaleRows s) slices_S8x512_o0_0_S1x512))⟩,
    ⟨S32x512, mulf (wide a1) (under (extractStridedSlice S1x512 ![1, 0] (scaleRows s) slices_S8x512_o1_0_S1x512))⟩,
    ⟨S32x512, mulf (wide a2) (under (extractStridedSlice S1x512 ![2, 0] (scaleRows s) slices_S8x512_o2_0_S1x512))⟩,
    ⟨S32x512, mulf (wide a3) (under (extractStridedSlice S1x512 ![3, 0] (scaleRows s) slices_S8x512_o3_0_S1x512))⟩,
    ⟨S32x512, mulf (wide a4) (under (extractStridedSlice S1x512 ![4, 0] (scaleRows s) slices_S8x512_o4_0_S1x512))⟩,
    ⟨S32x512, mulf (wide a5) (under (extractStridedSlice S1x512 ![5, 0] (scaleRows s) slices_S8x512_o5_0_S1x512))⟩,
    ⟨S32x512, mulf (wide a6) (under (extractStridedSlice S1x512 ![6, 0] (scaleRows s) slices_S8x512_o6_0_S1x512))⟩,
    ⟨S32x512, mulf (wide a7) (under (extractStridedSlice S1x512 ![7, 0] (scaleRows s) slices_S8x512_o7_0_S1x512))⟩]
    concatenates_S32x512_S32x512_S32x512_S32x512_S32x512_S32x512_S32x512_S32x512_S256x512_d0) transposes_S256x512_p1_0_S512x256)
    shapeCasts_S512x256_S512x256

/-- A tile's entry: if the eight code tiles are rows `256 r + 32 b + …` of `X0` and the scale rows are rows `8 r + …`
    of `X1`, the entry at `(k, t)` is the code in row `256 r + t`, column `k`, times the number of the scale byte in row
    `(256 r + t) / 32`, column `k`. -/
theorem tile_at (X0 : Vec Ideal S6144x512 .fp8e4m3) (X1 : Vec Ideal S192x512 .i8) (r : ℕ)
    (s : Vec Ideal S8x512 .i8) (a0 a1 a2 a3 a4 a5 a6 a7 : Vec Ideal S32x512 .fp8e4m3) (x : S512x256.Idx)
    (hs : ∀ (i : Fin 8) (g : Fin 192) (l : Fin 512), g.val = 8 * r + i.val → s (ix2 i l) = X1 (ix2 g l))
    (h0 : ∀ (i : Fin 32) (t : Fin 6144) (l : Fin 512), t.val = 256 * r + 0 + i.val → a0 (ix2 i l) = X0 (ix2 t l))
    (h1 : ∀ (i : Fin 32) (t : Fin 6144) (l : Fin 512), t.val = 256 * r + 32 + i.val → a1 (ix2 i l) = X0 (ix2 t l))
    (h2 : ∀ (i : Fin 32) (t : Fin 6144) (l : Fin 512), t.val = 256 * r + 64 + i.val → a2 (ix2 i l) = X0 (ix2 t l))
    (h3 : ∀ (i : Fin 32) (t : Fin 6144) (l : Fin 512), t.val = 256 * r + 96 + i.val → a3 (ix2 i l) = X0 (ix2 t l))
    (h4 : ∀ (i : Fin 32) (t : Fin 6144) (l : Fin 512), t.val = 256 * r + 128 + i.val → a4 (ix2 i l) = X0 (ix2 t l))
    (h5 : ∀ (i : Fin 32) (t : Fin 6144) (l : Fin 512), t.val = 256 * r + 160 + i.val → a5 (ix2 i l) = X0 (ix2 t l))
    (h6 : ∀ (i : Fin 32) (t : Fin 6144) (l : Fin 512), t.val = 256 * r + 192 + i.val → a6 (ix2 i l) = X0 (ix2 t l))
    (h7 : ∀ (i : Fin 32) (t : Fin 6144) (l : Fin 512), t.val = 256 * r + 224 + i.val → a7 (ix2 i l) = X0 (ix2 t l))
    (t : Fin 6144) (k : Fin 512) (g : Fin 192) (ht : t.val = 256 * r + (x 1).val) (hk : k.val = (x 0).val) (hg : g.val = t.val / 32) :
    tile s a0 a1 a2 a3 a4 a5 a6 a7 x = X0 (ix2 t k) * pow2 (X1 (ix2 g k)) := by
  idx_vars x
  pointwise [tile, wide, under, scaleRows_apply]
  have hx1 := x1.isLt
  have hk' : k = x0 := Fin.ext hk
  subst hk'
  repeat' split
  · exact congrArg₂ (· * ·) (h0 _ _ _ (by dsimp only; omega)) (congrArg pow2 (hs _ _ _ (by show g.val = 8 * r + 0; omega)))
  · exact congrArg₂ (· * ·) (h1 _ _ _ (by dsimp only; omega)) (congrArg pow2 (hs _ _ _ (by show g.val = 8 * r + 1; omega)))
  · exact congrArg₂ (· * ·) (h2 _ _ _ (by dsimp only; omega)) (congrArg pow2 (hs _ _ _ (by show g.val = 8 * r + 2; omega)))
  · exact congrArg₂ (· * ·) (h3 _ _ _ (by dsimp only; omega)) (congrArg pow2 (hs _ _ _ (by show g.val = 8 * r + 3; omega)))
  · exact congrArg₂ (· * ·) (h4 _ _ _ (by dsimp only; omega)) (congrArg pow2 (hs _ _ _ (by show g.val = 8 * r + 4; omega)))
  · exact congrArg₂ (· * ·) (h5 _ _ _ (by dsimp only; omega)) (congrArg pow2 (hs _ _ _ (by show g.val = 8 * r + 5; omega)))
  · exact congrArg₂ (· * ·) (h6 _ _ _ (by dsimp only; omega)) (congrArg pow2 (hs _ _ _ (by show g.val = 8 * r + 6; omega)))
  · exact congrArg₂ (· * ·) (h7 _ _ _ (by dsimp only; omega)) (congrArg pow2 (hs _ _ _ (by show g.val = 8 * r + 7; omega)))

/-- Any part of an array loaded: the entry at `i` is the array's at the offset plus `i`. -/
theorem ld_at {m n p q : ℕ} {e : EltTy} (X : Vec Ideal ⟨2, ![m, n]⟩ e) (o : Fin 2 → ℕ) (h : ∀ a : Fin 2, o a + ![p, q] a ≤ (⟨2, ![m, n]⟩ : Shape).size a) (i : Fin p) (l : Fin q) (t : Fin m) (k : Fin n)
    (ht : t.val = o 0 + i.val) (hk : k.val = o 1 + l.val) :
    View.ld X (Rect.unit (s := ⟨2, ![m, n]⟩) o ![p, q] h) (ix2 i l) = X (ix2 t k) := by
  refine congrArg X ?_
  funext a
  match a with
  | ⟨0, _⟩ => exact Fin.ext (by show o 0 + 1 * i.val = t.val; omega)
  | ⟨1, _⟩ => exact Fin.ext (by show o 1 + 1 * l.val = k.val; omega)

set_option maxHeartbeats 2000000 in
/-- What the kernel leaves in the scratch where it fills it: the dequantised codes transposed, entry `(k, t)` the code in
    row `t`, column `k`, times the number of the scale byte in row `t / 32`, column `k`. -/
theorem scratch_A (c : Dev nD) (i : grid0.Coords) (arg2 : Memref sig .tc .vmem S6144x512 .fp8e4m3) (harg2 : arg2.IsWhole) (arg3 : Memref sig .tc .vmem S192x512 .i8) (harg3 : arg3.IsWhole) (arg4 : Memref sig .tc .vmem S6144x512 .bf16) (harg4 : arg4.IsWhole) (arg5 : Memref sig .tc .vmem S512x512 .f32) (harg5 : arg5.IsWhole) (arg6 : Memref sig .tc .vmem S512x6144 .bf16) (harg6 : arg6.IsWhole) (hc0 : cond0_0 i)
    (x0 : Vec Ideal S6144x512 .fp8e4m3) (x1 : Vec Ideal S192x512 .i8) (x2 : Vec Ideal S6144x512 .bf16)
    (k : Fin 512) (t : Fin 6144) (g : Fin 192) (hg : g.val = t.val / 32) :
    sout0_A_0 (F := Ideal) c i arg2 harg2 arg3 harg3 arg4 harg4 arg5 harg5 arg6 harg6 hc0 x0 x1 x2 (ix2 k t)
      = x0 (ix2 t k) * pow2 (x1 (ix2 g k)) := by
  frame_out
  canon_tiles x h
  · refine tile_at x0 x1 23 _ _ _ _ _ _ _ _ _ x ?_ ?_ ?_ ?_ ?_ ?_ ?_ ?_ ?_ t k g ?_ ?_ hg
    · intro i g l e; exact ld_at _ _ _ _ _ _ _ (by show g.val = 184 + i.val; omega) (Nat.zero_add l.val).symm
    · intro i t l e; exact ld_at _ _ _ _ _ _ _ (by show t.val = 5888 + i.val; omega) (Nat.zero_add l.val).symm
    · intro i t l e; exact ld_at _ _ _ _ _ _ _ (by show t.val = 5920 + i.val; omega) (Nat.zero_add l.val).symm
    · intro i t l e; exact ld_at _ _ _ _ _ _ _ (by show t.val = 5952 + i.val; omega) (Nat.zero_add l.val).symm
    · intro i t l e; exact ld_at _ _ _ _ _ _ _ (by show t.val = 5984 + i.val; omega) (Nat.zero_add l.val).symm
    · intro i t l e; exact ld_at _ _ _ _ _ _ _ (by show t.val = 6016 + i.val; omega) (Nat.zero_add l.val).symm
    · intro i t l e; exact ld_at _ _ _ _ _ _ _ (by show t.val = 6048 + i.val; omega) (Nat.zero_add l.val).symm
    · intro i t l e; exact ld_at _ _ _ _ _ _ _ (by show t.val = 6080 + i.val; omega) (Nat.zero_add l.val).symm
    · intro i t l e; exact ld_at _ _ _ _ _ _ _ (by show t.val = 6112 + i.val; omega) (Nat.zero_add l.val).symm
    · have h1' : t.val = 5888 + (x 1).val := h1
      omega
    · exact h0
  · refine tile_at x0 x1 22 _ _ _ _ _ _ _ _ _ x ?_ ?_ ?_ ?_ ?_ ?_ ?_ ?_ ?_ t k g ?_ ?_ hg
    · intro i g l e; exact ld_at _ _ _ _ _ _ _ (by show g.val = 176 + i.val; omega) (Nat.zero_add l.val).symm
    · intro i t l e; exact ld_at _ _ _ _ _ _ _ (by show t.val = 5632 + i.val; omega) (Nat.zero_add l.val).symm
    · intro i t l e; exact ld_at _ _ _ _ _ _ _ (by show t.val = 5664 + i.val; omega) (Nat.zero_add l.val).symm
    · intro i t l e; exact ld_at _ _ _ _ _ _ _ (by show t.val = 5696 + i.val; omega) (Nat.zero_add l.val).symm
    · intro i t l e; exact ld_at _ _ _ _ _ _ _ (by show t.val = 5728 + i.val; omega) (Nat.zero_add l.val).symm
    · intro i t l e; exact ld_at _ _ _ _ _ _ _ (by show t.val = 5760 + i.val; omega) (Nat.zero_add l.val).symm
    · intro i t l e; exact ld_at _ _ _ _ _ _ _ (by show t.val = 5792 + i.val; omega) (Nat.zero_add l.val).symm
    · intro i t l e; exact ld_at _ _ _ _ _ _ _ (by show t.val = 5824 + i.val; omega) (Nat.zero_add l.val).symm
    · intro i t l e; exact ld_at _ _ _ _ _ _ _ (by show t.val = 5856 + i.val; omega) (Nat.zero_add l.val).symm
    · have h1' : t.val = 5632 + (x 1).val := h1
      omega
    · exact h0
  · refine tile_at x0 x1 21 _ _ _ _ _ _ _ _ _ x ?_ ?_ ?_ ?_ ?_ ?_ ?_ ?_ ?_ t k g ?_ ?_ hg
    · intro i g l e; exact ld_at _ _ _ _ _ _ _ (by show g.val = 168 + i.val; omega) (Nat.zero_add l.val).symm
    · intro i t l e; exact ld_at _ _ _ _ _ _ _ (by show t.val = 5376 + i.val; omega) (Nat.zero_add l.val).symm
    · intro i t l e; exact ld_at _ _ _ _ _ _ _ (by show t.val = 5408 + i.val; omega) (Nat.zero_add l.val).symm
    · intro i t l e; exact ld_at _ _ _ _ _ _ _ (by show t.val = 5440 + i.val; omega) (Nat.zero_add l.val).symm
    · intro i t l e; exact ld_at _ _ _ _ _ _ _ (by show t.val = 5472 + i.val; omega) (Nat.zero_add l.val).symm
    · intro i t l e; exact ld_at _ _ _ _ _ _ _ (by show t.val = 5504 + i.val; omega) (Nat.zero_add l.val).symm
    · intro i t l e; exact ld_at _ _ _ _ _ _ _ (by show t.val = 5536 + i.val; omega) (Nat.zero_add l.val).symm
    · intro i t l e; exact ld_at _ _ _ _ _ _ _ (by show t.val = 5568 + i.val; omega) (Nat.zero_add l.val).symm
    · intro i t l e; exact ld_at _ _ _ _ _ _ _ (by show t.val = 5600 + i.val; omega) (Nat.zero_add l.val).symm
    · have h1' : t.val = 5376 + (x 1).val := h1
      omega
    · exact h0
  · refine tile_at x0 x1 20 _ _ _ _ _ _ _ _ _ x ?_ ?_ ?_ ?_ ?_ ?_ ?_ ?_ ?_ t k g ?_ ?_ hg
    · intro i g l e; exact ld_at _ _ _ _ _ _ _ (by show g.val = 160 + i.val; omega) (Nat.zero_add l.val).symm
    · intro i t l e; exact ld_at _ _ _ _ _ _ _ (by show t.val = 5120 + i.val; omega) (Nat.zero_add l.val).symm
    · intro i t l e; exact ld_at _ _ _ _ _ _ _ (by show t.val = 5152 + i.val; omega) (Nat.zero_add l.val).symm
    · intro i t l e; exact ld_at _ _ _ _ _ _ _ (by show t.val = 5184 + i.val; omega) (Nat.zero_add l.val).symm
    · intro i t l e; exact ld_at _ _ _ _ _ _ _ (by show t.val = 5216 + i.val; omega) (Nat.zero_add l.val).symm
    · intro i t l e; exact ld_at _ _ _ _ _ _ _ (by show t.val = 5248 + i.val; omega) (Nat.zero_add l.val).symm
    · intro i t l e; exact ld_at _ _ _ _ _ _ _ (by show t.val = 5280 + i.val; omega) (Nat.zero_add l.val).symm
    · intro i t l e; exact ld_at _ _ _ _ _ _ _ (by show t.val = 5312 + i.val; omega) (Nat.zero_add l.val).symm
    · intro i t l e; exact ld_at _ _ _ _ _ _ _ (by show t.val = 5344 + i.val; omega) (Nat.zero_add l.val).symm
    · have h1' : t.val = 5120 + (x 1).val := h1
      omega
    · exact h0
  · refine tile_at x0 x1 19 _ _ _ _ _ _ _ _ _ x ?_ ?_ ?_ ?_ ?_ ?_ ?_ ?_ ?_ t k g ?_ ?_ hg
    · intro i g l e; exact ld_at _ _ _ _ _ _ _ (by show g.val = 152 + i.val; omega) (Nat.zero_add l.val).symm
    · intro i t l e; exact ld_at _ _ _ _ _ _ _ (by show t.val = 4864 + i.val; omega) (Nat.zero_add l.val).symm
    · intro i t l e; exact ld_at _ _ _ _ _ _ _ (by show t.val = 4896 + i.val; omega) (Nat.zero_add l.val).symm
    · intro i t l e; exact ld_at _ _ _ _ _ _ _ (by show t.val = 4928 + i.val; omega) (Nat.zero_add l.val).symm
    · intro i t l e; exact ld_at _ _ _ _ _ _ _ (by show t.val = 4960 + i.val; omega) (Nat.zero_add l.val).symm
    · intro i t l e; exact ld_at _ _ _ _ _ _ _ (by show t.val = 4992 + i.val; omega) (Nat.zero_add l.val).symm
    · intro i t l e; exact ld_at _ _ _ _ _ _ _ (by show t.val = 5024 + i.val; omega) (Nat.zero_add l.val).symm
    · intro i t l e; exact ld_at _ _ _ _ _ _ _ (by show t.val = 5056 + i.val; omega) (Nat.zero_add l.val).symm
    · intro i t l e; exact ld_at _ _ _ _ _ _ _ (by show t.val = 5088 + i.val; omega) (Nat.zero_add l.val).symm
    · have h1' : t.val = 4864 + (x 1).val := h1
      omega
    · exact h0
  · refine tile_at x0 x1 18 _ _ _ _ _ _ _ _ _ x ?_ ?_ ?_ ?_ ?_ ?_ ?_ ?_ ?_ t k g ?_ ?_ hg
    · intro i g l e; exact ld_at _ _ _ _ _ _ _ (by show g.val = 144 + i.val; omega) (Nat.zero_add l.val).symm
    · intro i t l e; exact ld_at _ _ _ _ _ _ _ (by show t.val = 4608 + i.val; omega) (Nat.zero_add l.val).symm
    · intro i t l e; exact ld_at _ _ _ _ _ _ _ (by show t.val = 4640 + i.val; omega) (Nat.zero_add l.val).symm
    · intro i t l e; exact ld_at _ _ _ _ _ _ _ (by show t.val = 4672 + i.val; omega) (Nat.zero_add l.val).symm
    · intro i t l e; exact ld_at _ _ _ _ _ _ _ (by show t.val = 4704 + i.val; omega) (Nat.zero_add l.val).symm
    · intro i t l e; exact ld_at _ _ _ _ _ _ _ (by show t.val = 4736 + i.val; omega) (Nat.zero_add l.val).symm
    · intro i t l e; exact ld_at _ _ _ _ _ _ _ (by show t.val = 4768 + i.val; omega) (Nat.zero_add l.val).symm
    · intro i t l e; exact ld_at _ _ _ _ _ _ _ (by show t.val = 4800 + i.val; omega) (Nat.zero_add l.val).symm
    · intro i t l e; exact ld_at _ _ _ _ _ _ _ (by show t.val = 4832 + i.val; omega) (Nat.zero_add l.val).symm
    · have h1' : t.val = 4608 + (x 1).val := h1
      omega
    · exact h0
  · refine tile_at x0 x1 17 _ _ _ _ _ _ _ _ _ x ?_ ?_ ?_ ?_ ?_ ?_ ?_ ?_ ?_ t k g ?_ ?_ hg
    · intro i g l e; exact ld_at _ _ _ _ _ _ _ (by show g.val = 136 + i.val; omega) (Nat.zero_add l.val).symm
    · intro i t l e; exact ld_at _ _ _ _ _ _ _ (by show t.val = 4352 + i.val; omega) (Nat.zero_add l.val).symm
    · intro i t l e; exact ld_at _ _ _ _ _ _ _ (by show t.val = 4384 + i.val; omega) (Nat.zero_add l.val).symm
    · intro i t l e; exact ld_at _ _ _ _ _ _ _ (by show t.val = 4416 + i.val; omega) (Nat.zero_add l.val).symm
    · intro i t l e; exact ld_at _ _ _ _ _ _ _ (by show t.val = 4448 + i.val; omega) (Nat.zero_add l.val).symm
    · intro i t l e; exact ld_at _ _ _ _ _ _ _ (by show t.val = 4480 + i.val; omega) (Nat.zero_add l.val).symm
    · intro i t l e; exact ld_at _ _ _ _ _ _ _ (by show t.val = 4512 + i.val; omega) (Nat.zero_add l.val).symm
    · intro i t l e; exact ld_at _ _ _ _ _ _ _ (by show t.val = 4544 + i.val; omega) (Nat.zero_add l.val).symm
    · intro i t l e; exact ld_at _ _ _ _ _ _ _ (by show t.val = 4576 + i.val; omega) (Nat.zero_add l.val).symm
    · have h1' : t.val = 4352 + (x 1).val := h1
      omega
    · exact h0
  · refine tile_at x0 x1 16 _ _ _ _ _ _ _ _ _ x ?_ ?_ ?_ ?_ ?_ ?_ ?_ ?_ ?_ t k g ?_ ?_ hg
    · intro i g l e; exact ld_at _ _ _ _ _ _ _ (by show g.val = 128 + i.val; omega) (Nat.zero_add l.val).symm
    · intro i t l e; exact ld_at _ _ _ _ _ _ _ (by show t.val = 4096 + i.val; omega) (Nat.zero_add l.val).symm
    · intro i t l e; exact ld_at _ _ _ _ _ _ _ (by show t.val = 4128 + i.val; omega) (Nat.zero_add l.val).symm
    · intro i t l e; exact ld_at _ _ _ _ _ _ _ (by show t.val = 4160 + i.val; omega) (Nat.zero_add l.val).symm
    · intro i t l e; exact ld_at _ _ _ _ _ _ _ (by show t.val = 4192 + i.val; omega) (Nat.zero_add l.val).symm
    · intro i t l e; exact ld_at _ _ _ _ _ _ _ (by show t.val = 4224 + i.val; omega) (Nat.zero_add l.val).symm
    · intro i t l e; exact ld_at _ _ _ _ _ _ _ (by show t.val = 4256 + i.val; omega) (Nat.zero_add l.val).symm
    · intro i t l e; exact ld_at _ _ _ _ _ _ _ (by show t.val = 4288 + i.val; omega) (Nat.zero_add l.val).symm
    · intro i t l e; exact ld_at _ _ _ _ _ _ _ (by show t.val = 4320 + i.val; omega) (Nat.zero_add l.val).symm
    · have h1' : t.val = 4096 + (x 1).val := h1
      omega
    · exact h0
  · refine tile_at x0 x1 15 _ _ _ _ _ _ _ _ _ x ?_ ?_ ?_ ?_ ?_ ?_ ?_ ?_ ?_ t k g ?_ ?_ hg
    · intro i g l e; exact ld_at _ _ _ _ _ _ _ (by show g.val = 120 + i.val; omega) (Nat.zero_add l.val).symm
    · intro i t l e; exact ld_at _ _ _ _ _ _ _ (by show t.val = 3840 + i.val; omega) (Nat.zero_add l.val).symm
    · intro i t l e; exact ld_at _ _ _ _ _ _ _ (by show t.val = 3872 + i.val; omega) (Nat.zero_add l.val).symm
    · intro i t l e; exact ld_at _ _ _ _ _ _ _ (by show t.val = 3904 + i.val; omega) (Nat.zero_add l.val).symm
    · intro i t l e; exact ld_at _ _ _ _ _ _ _ (by show t.val = 3936 + i.val; omega) (Nat.zero_add l.val).symm
    · intro i t l e; exact ld_at _ _ _ _ _ _ _ (by show t.val = 3968 + i.val; omega) (Nat.zero_add l.val).symm
    · intro i t l e; exact ld_at _ _ _ _ _ _ _ (by show t.val = 4000 + i.val; omega) (Nat.zero_add l.val).symm
    · intro i t l e; exact ld_at _ _ _ _ _ _ _ (by show t.val = 4032 + i.val; omega) (Nat.zero_add l.val).symm
    · intro i t l e; exact ld_at _ _ _ _ _ _ _ (by show t.val = 4064 + i.val; omega) (Nat.zero_add l.val).symm
    · have h1' : t.val = 3840 + (x 1).val := h1
      omega
    · exact h0
  · refine tile_at x0 x1 14 _ _ _ _ _ _ _ _ _ x ?_ ?_ ?_ ?_ ?_ ?_ ?_ ?_ ?_ t k g ?_ ?_ hg
    · intro i g l e; exact ld_at _ _ _ _ _ _ _ (by show g.val = 112 + i.val; omega) (Nat.zero_add l.val).symm
    · intro i t l e; exact ld_at _ _ _ _ _ _ _ (by show t.val = 3584 + i.val; omega) (Nat.zero_add l.val).symm
    · intro i t l e; exact ld_at _ _ _ _ _ _ _ (by show t.val = 3616 + i.val; omega) (Nat.zero_add l.val).symm
    · intro i t l e; exact ld_at _ _ _ _ _ _ _ (by show t.val = 3648 + i.val; omega) (Nat.zero_add l.val).symm
    · intro i t l e; exact ld_at _ _ _ _ _ _ _ (by show t.val = 3680 + i.val; omega) (Nat.zero_add l.val).symm
    · intro i t l e; exact ld_at _ _ _ _ _ _ _ (by show t.val = 3712 + i.val; omega) (Nat.zero_add l.val).symm
    · intro i t l e; exact ld_at _ _ _ _ _ _ _ (by show t.val = 3744 + i.val; omega) (Nat.zero_add l.val).symm
    · intro i t l e; exact ld_at _ _ _ _ _ _ _ (by show t.val = 3776 + i.val; omega) (Nat.zero_add l.val).symm
    · intro i t l e; exact ld_at _ _ _ _ _ _ _ (by show t.val = 3808 + i.val; omega) (Nat.zero_add l.val).symm
    · have h1' : t.val = 3584 + (x 1).val := h1
      omega
    · exact h0
  · refine tile_at x0 x1 13 _ _ _ _ _ _ _ _ _ x ?_ ?_ ?_ ?_ ?_ ?_ ?_ ?_ ?_ t k g ?_ ?_ hg
    · intro i g l e; exact ld_at _ _ _ _ _ _ _ (by show g.val = 104 + i.val; omega) (Nat.zero_add l.val).symm
    · intro i t l e; exact ld_at _ _ _ _ _ _ _ (by show t.val = 3328 + i.val; omega) (Nat.zero_add l.val).symm
    · intro i t l e; exact ld_at _ _ _ _ _ _ _ (by show t.val = 3360 + i.val; omega) (Nat.zero_add l.val).symm
    · intro i t l e; exact ld_at _ _ _ _ _ _ _ (by show t.val = 3392 + i.val; omega) (Nat.zero_add l.val).symm
    · intro i t l e; exact ld_at _ _ _ _ _ _ _ (by show t.val = 3424 + i.val; omega) (Nat.zero_add l.val).symm
    · intro i t l e; exact ld_at _ _ _ _ _ _ _ (by show t.val = 3456 + i.val; omega) (Nat.zero_add l.val).symm
    · intro i t l e; exact ld_at _ _ _ _ _ _ _ (by show t.val = 3488 + i.val; omega) (Nat.zero_add l.val).symm
    · intro i t l e; exact ld_at _ _ _ _ _ _ _ (by show t.val = 3520 + i.val; omega) (Nat.zero_add l.val).symm
    · intro i t l e; exact ld_at _ _ _ _ _ _ _ (by show t.val = 3552 + i.val; omega) (Nat.zero_add l.val).symm
    · have h1' : t.val = 3328 + (x 1).val := h1
      omega
    · exact h0
  · refine tile_at x0 x1 12 _ _ _ _ _ _ _ _ _ x ?_ ?_ ?_ ?_ ?_ ?_ ?_ ?_ ?_ t k g ?_ ?_ hg
    · intro i g l e; exact ld_at _ _ _ _ _ _ _ (by show g.val = 96 + i.val; omega) (Nat.zero_add l.val).symm
    · intro i t l e; exact ld_at _ _ _ _ _ _ _ (by show t.val = 3072 + i.val; omega) (Nat.zero_add l.val).symm
    · intro i t l e; exact ld_at _ _ _ _ _ _ _ (by show t.val = 3104 + i.val; omega) (Nat.zero_add l.val).symm
    · intro i t l e; exact ld_at _ _ _ _ _ _ _ (by show t.val = 3136 + i.val; omega) (Nat.zero_add l.val).symm
    · intro i t l e; exact ld_at _ _ _ _ _ _ _ (by show t.val = 3168 + i.val; omega) (Nat.zero_add l.val).symm
    · intro i t l e; exact ld_at _ _ _ _ _ _ _ (by show t.val = 3200 + i.val; omega) (Nat.zero_add l.val).symm
    · intro i t l e; exact ld_at _ _ _ _ _ _ _ (by show t.val = 3232 + i.val; omega) (Nat.zero_add l.val).symm
    · intro i t l e; exact ld_at _ _ _ _ _ _ _ (by show t.val = 3264 + i.val; omega) (Nat.zero_add l.val).symm
    · intro i t l e; exact ld_at _ _ _ _ _ _ _ (by show t.val = 3296 + i.val; omega) (Nat.zero_add l.val).symm
    · have h1' : t.val = 3072 + (x 1).val := h1
      omega
    · exact h0
  · refine tile_at x0 x1 11 _ _ _ _ _ _ _ _ _ x ?_ ?_ ?_ ?_ ?_ ?_ ?_ ?_ ?_ t k g ?_ ?_ hg
    · intro i g l e; exact ld_at _ _ _ _ _ _ _ (by show g.val = 88 + i.val; omega) (Nat.zero_add l.val).symm
    · intro i t l e; exact ld_at _ _ _ _ _ _ _ (by show t.val = 2816 + i.val; omega) (Nat.zero_add l.val).symm
    · intro i t l e; exact ld_at _ _ _ _ _ _ _ (by show t.val = 2848 + i.val; omega) (Nat.zero_add l.val).symm
    · intro i t l e; exact ld_at _ _ _ _ _ _ _ (by show t.val = 2880 + i.val; omega) (Nat.zero_add l.val).symm
    · intro i t l e; exact ld_at _ _ _ _ _ _ _ (by show t.val = 2912 + i.val; omega) (Nat.zero_add l.val).symm
    · intro i t l e; exact ld_at _ _ _ _ _ _ _ (by show t.val = 2944 + i.val; omega) (Nat.zero_add l.val).symm
    · intro i t l e; exact ld_at _ _ _ _ _ _ _ (by show t.val = 2976 + i.val; omega) (Nat.zero_add l.val).symm
    · intro i t l e; exact ld_at _ _ _ _ _ _ _ (by show t.val = 3008 + i.val; omega) (Nat.zero_add l.val).symm
    · intro i t l e; exact ld_at _ _ _ _ _ _ _ (by show t.val = 3040 + i.val; omega) (Nat.zero_add l.val).symm
    · have h1' : t.val = 2816 + (x 1).val := h1
      omega
    · exact h0
  · refine tile_at x0 x1 10 _ _ _ _ _ _ _ _ _ x ?_ ?_ ?_ ?_ ?_ ?_ ?_ ?_ ?_ t k g ?_ ?_ hg
    · intro i g l e; exact ld_at _ _ _ _ _ _ _ (by show g.val = 80 + i.val; omega) (Nat.zero_add l.val).symm
    · intro i t l e; exact ld_at _ _ _ _ _ _ _ (by show t.val = 2560 + i.val; omega) (Nat.zero_add l.val).symm
    · intro i t l e; exact ld_at _ _ _ _ _ _ _ (by show t.val = 2592 + i.val; omega) (Nat.zero_add l.val).symm
    · intro i t l e; exact ld_at _ _ _ _ _ _ _ (by show t.val = 2624 + i.val; omega) (Nat.zero_add l.val).symm
    · intro i t l e; exact ld_at _ _ _ _ _ _ _ (by show t.val = 2656 + i.val; omega) (Nat.zero_add l.val).symm
    · intro i t l e; exact ld_at _ _ _ _ _ _ _ (by show t.val = 2688 + i.val; omega) (Nat.zero_add l.val).symm
    · intro i t l e; exact ld_at _ _ _ _ _ _ _ (by show t.val = 2720 + i.val; omega) (Nat.zero_add l.val).symm
    · intro i t l e; exact ld_at _ _ _ _ _ _ _ (by show t.val = 2752 + i.val; omega) (Nat.zero_add l.val).symm
    · intro i t l e; exact ld_at _ _ _ _ _ _ _ (by show t.val = 2784 + i.val; omega) (Nat.zero_add l.val).symm
    · have h1' : t.val = 2560 + (x 1).val := h1
      omega
    · exact h0
  · refine tile_at x0 x1 9 _ _ _ _ _ _ _ _ _ x ?_ ?_ ?_ ?_ ?_ ?_ ?_ ?_ ?_ t k g ?_ ?_ hg
    · intro i g l e; exact ld_at _ _ _ _ _ _ _ (by show g.val = 72 + i.val; omega) (Nat.zero_add l.val).symm
    · intro i t l e; exact ld_at _ _ _ _ _ _ _ (by show t.val = 2304 + i.val; omega) (Nat.zero_add l.val).symm
    · intro i t l e; exact ld_at _ _ _ _ _ _ _ (by show t.val = 2336 + i.val; omega) (Nat.zero_add l.val).symm
    · intro i t l e; exact ld_at _ _ _ _ _ _ _ (by show t.val = 2368 + i.val; omega) (Nat.zero_add l.val).symm
    · intro i t l e; exact ld_at _ _ _ _ _ _ _ (by show t.val = 2400 + i.val; omega) (Nat.zero_add l.val).symm
    · intro i t l e; exact ld_at _ _ _ _ _ _ _ (by show t.val = 2432 + i.val; omega) (Nat.zero_add l.val).symm
    · intro i t l e; exact ld_at _ _ _ _ _ _ _ (by show t.val = 2464 + i.val; omega) (Nat.zero_add l.val).symm
    · intro i t l e; exact ld_at _ _ _ _ _ _ _ (by show t.val = 2496 + i.val; omega) (Nat.zero_add l.val).symm
    · intro i t l e; exact ld_at _ _ _ _ _ _ _ (by show t.val = 2528 + i.val; omega) (Nat.zero_add l.val).symm
    · have h1' : t.val = 2304 + (x 1).val := h1
      omega
    · exact h0
  · refine tile_at x0 x1 8 _ _ _ _ _ _ _ _ _ x ?_ ?_ ?_ ?_ ?_ ?_ ?_ ?_ ?_ t k g ?_ ?_ hg
    · intro i g l e; exact ld_at _ _ _ _ _ _ _ (by show g.val = 64 + i.val; omega) (Nat.zero_add l.val).symm
    · intro i t l e; exact ld_at _ _ _ _ _ _ _ (by show t.val = 2048 + i.val; omega) (Nat.zero_add l.val).symm
    · intro i t l e; exact ld_at _ _ _ _ _ _ _ (by show t.val = 2080 + i.val; omega) (Nat.zero_add l.val).symm
    · intro i t l e; exact ld_at _ _ _ _ _ _ _ (by show t.val = 2112 + i.val; omega) (Nat.zero_add l.val).symm
    · intro i t l e; exact ld_at _ _ _ _ _ _ _ (by show t.val = 2144 + i.val; omega) (Nat.zero_add l.val).symm
    · intro i t l e; exact ld_at _ _ _ _ _ _ _ (by show t.val = 2176 + i.val; omega) (Nat.zero_add l.val).symm
    · intro i t l e; exact ld_at _ _ _ _ _ _ _ (by show t.val = 2208 + i.val; omega) (Nat.zero_add l.val).symm
    · intro i t l e; exact ld_at _ _ _ _ _ _ _ (by show t.val = 2240 + i.val; omega) (Nat.zero_add l.val).symm
    · intro i t l e; exact ld_at _ _ _ _ _ _ _ (by show t.val = 2272 + i.val; omega) (Nat.zero_add l.val).symm
    · have h1' : t.val = 2048 + (x 1).val := h1
      omega
    · exact h0
  · refine tile_at x0 x1 7 _ _ _ _ _ _ _ _ _ x ?_ ?_ ?_ ?_ ?_ ?_ ?_ ?_ ?_ t k g ?_ ?_ hg
    · intro i g l e; exact ld_at _ _ _ _ _ _ _ (by show g.val = 56 + i.val; omega) (Nat.zero_add l.val).symm
    · intro i t l e; exact ld_at _ _ _ _ _ _ _ (by show t.val = 1792 + i.val; omega) (Nat.zero_add l.val).symm
    · intro i t l e; exact ld_at _ _ _ _ _ _ _ (by show t.val = 1824 + i.val; omega) (Nat.zero_add l.val).symm
    · intro i t l e; exact ld_at _ _ _ _ _ _ _ (by show t.val = 1856 + i.val; omega) (Nat.zero_add l.val).symm
    · intro i t l e; exact ld_at _ _ _ _ _ _ _ (by show t.val = 1888 + i.val; omega) (Nat.zero_add l.val).symm
    · intro i t l e; exact ld_at _ _ _ _ _ _ _ (by show t.val = 1920 + i.val; omega) (Nat.zero_add l.val).symm
    · intro i t l e; exact ld_at _ _ _ _ _ _ _ (by show t.val = 1952 + i.val; omega) (Nat.zero_add l.val).symm
    · intro i t l e; exact ld_at _ _ _ _ _ _ _ (by show t.val = 1984 + i.val; omega) (Nat.zero_add l.val).symm
    · intro i t l e; exact ld_at _ _ _ _ _ _ _ (by show t.val = 2016 + i.val; omega) (Nat.zero_add l.val).symm
    · have h1' : t.val = 1792 + (x 1).val := h1
      omega
    · exact h0
  · refine tile_at x0 x1 6 _ _ _ _ _ _ _ _ _ x ?_ ?_ ?_ ?_ ?_ ?_ ?_ ?_ ?_ t k g ?_ ?_ hg
    · intro i g l e; exact ld_at _ _ _ _ _ _ _ (by show g.val = 48 + i.val; omega) (Nat.zero_add l.val).symm
    · intro i t l e; exact ld_at _ _ _ _ _ _ _ (by show t.val = 1536 + i.val; omega) (Nat.zero_add l.val).symm
    · intro i t l e; exact ld_at _ _ _ _ _ _ _ (by show t.val = 1568 + i.val; omega) (Nat.zero_add l.val).symm
    · intro i t l e; exact ld_at _ _ _ _ _ _ _ (by show t.val = 1600 + i.val; omega) (Nat.zero_add l.val).symm
    · intro i t l e; exact ld_at _ _ _ _ _ _ _ (by show t.val = 1632 + i.val; omega) (Nat.zero_add l.val).symm
    · intro i t l e; exact ld_at _ _ _ _ _ _ _ (by show t.val = 1664 + i.val; omega) (Nat.zero_add l.val).symm
    · intro i t l e; exact ld_at _ _ _ _ _ _ _ (by show t.val = 1696 + i.val; omega) (Nat.zero_add l.val).symm
    · intro i t l e; exact ld_at _ _ _ _ _ _ _ (by show t.val = 1728 + i.val; omega) (Nat.zero_add l.val).symm
    · intro i t l e; exact ld_at _ _ _ _ _ _ _ (by show t.val = 1760 + i.val; omega) (Nat.zero_add l.val).symm
    · have h1' : t.val = 1536 + (x 1).val := h1
      omega
    · exact h0
  · refine tile_at x0 x1 5 _ _ _ _ _ _ _ _ _ x ?_ ?_ ?_ ?_ ?_ ?_ ?_ ?_ ?_ t k g ?_ ?_ hg
    · intro i g l e; exact ld_at _ _ _ _ _ _ _ (by show g.val = 40 + i.val; omega) (Nat.zero_add l.val).symm
    · intro i t l e; exact ld_at _ _ _ _ _ _ _ (by show t.val = 1280 + i.val; omega) (Nat.zero_add l.val).symm
    · intro i t l e; exact ld_at _ _ _ _ _ _ _ (by show t.val = 1312 + i.val; omega) (Nat.zero_add l.val).symm
    · intro i t l e; exact ld_at _ _ _ _ _ _ _ (by show t.val = 1344 + i.val; omega) (Nat.zero_add l.val).symm
    · intro i t l e; exact ld_at _ _ _ _ _ _ _ (by show t.val = 1376 + i.val; omega) (Nat.zero_add l.val).symm
    · intro i t l e; exact ld_at _ _ _ _ _ _ _ (by show t.val = 1408 + i.val; omega) (Nat.zero_add l.val).symm
    · intro i t l e; exact ld_at _ _ _ _ _ _ _ (by show t.val = 1440 + i.val; omega) (Nat.zero_add l.val).symm
    · intro i t l e; exact ld_at _ _ _ _ _ _ _ (by show t.val = 1472 + i.val; omega) (Nat.zero_add l.val).symm
    · intro i t l e; exact ld_at _ _ _ _ _ _ _ (by show t.val = 1504 + i.val; omega) (Nat.zero_add l.val).symm
    · have h1' : t.val = 1280 + (x 1).val := h1
      omega
    · exact h0
  · refine tile_at x0 x1 4 _ _ _ _ _ _ _ _ _ x ?_ ?_ ?_ ?_ ?_ ?_ ?_ ?_ ?_ t k g ?_ ?_ hg
    · intro i g l e; exact ld_at _ _ _ _ _ _ _ (by show g.val = 32 + i.val; omega) (Nat.zero_add l.val).symm
    · intro i t l e; exact ld_at _ _ _ _ _ _ _ (by show t.val = 1024 + i.val; omega) (Nat.zero_add l.val).symm
    · intro i t l e; exact ld_at _ _ _ _ _ _ _ (by show t.val = 1056 + i.val; omega) (Nat.zero_add l.val).symm
    · intro i t l e; exact ld_at _ _ _ _ _ _ _ (by show t.val = 1088 + i.val; omega) (Nat.zero_add l.val).symm
    · intro i t l e; exact ld_at _ _ _ _ _ _ _ (by show t.val = 1120 + i.val; omega) (Nat.zero_add l.val).symm
    · intro i t l e; exact ld_at _ _ _ _ _ _ _ (by show t.val = 1152 + i.val; omega) (Nat.zero_add l.val).symm
    · intro i t l e; exact ld_at _ _ _ _ _ _ _ (by show t.val = 1184 + i.val; omega) (Nat.zero_add l.val).symm
    · intro i t l e; exact ld_at _ _ _ _ _ _ _ (by show t.val = 1216 + i.val; omega) (Nat.zero_add l.val).symm
    · intro i t l e; exact ld_at _ _ _ _ _ _ _ (by show t.val = 1248 + i.val; omega) (Nat.zero_add l.val).symm
    · have h1' : t.val = 1024 + (x 1).val := h1
      omega
    · exact h0
  · refine tile_at x0 x1 3 _ _ _ _ _ _ _ _ _ x ?_ ?_ ?_ ?_ ?_ ?_ ?_ ?_ ?_ t k g ?_ ?_ hg
    · intro i g l e; exact ld_at _ _ _ _ _ _ _ (by show g.val = 24 + i.val; omega) (Nat.zero_add l.val).symm
    · intro i t l e; exact ld_at _ _ _ _ _ _ _ (by show t.val = 768 + i.val; omega) (Nat.zero_add l.val).symm
    · intro i t l e; exact ld_at _ _ _ _ _ _ _ (by show t.val = 800 + i.val; omega) (Nat.zero_add l.val).symm
    · intro i t l e; exact ld_at _ _ _ _ _ _ _ (by show t.val = 832 + i.val; omega) (Nat.zero_add l.val).symm
    · intro i t l e; exact ld_at _ _ _ _ _ _ _ (by show t.val = 864 + i.val; omega) (Nat.zero_add l.val).symm
    · intro i t l e; exact ld_at _ _ _ _ _ _ _ (by show t.val = 896 + i.val; omega) (Nat.zero_add l.val).symm
    · intro i t l e; exact ld_at _ _ _ _ _ _ _ (by show t.val = 928 + i.val; omega) (Nat.zero_add l.val).symm
    · intro i t l e; exact ld_at _ _ _ _ _ _ _ (by show t.val = 960 + i.val; omega) (Nat.zero_add l.val).symm
    · intro i t l e; exact ld_at _ _ _ _ _ _ _ (by show t.val = 992 + i.val; omega) (Nat.zero_add l.val).symm
    · have h1' : t.val = 768 + (x 1).val := h1
      omega
    · exact h0
  · refine tile_at x0 x1 2 _ _ _ _ _ _ _ _ _ x ?_ ?_ ?_ ?_ ?_ ?_ ?_ ?_ ?_ t k g ?_ ?_ hg
    · intro i g l e; exact ld_at _ _ _ _ _ _ _ (by show g.val = 16 + i.val; omega) (Nat.zero_add l.val).symm
    · intro i t l e; exact ld_at _ _ _ _ _ _ _ (by show t.val = 512 + i.val; omega) (Nat.zero_add l.val).symm
    · intro i t l e; exact ld_at _ _ _ _ _ _ _ (by show t.val = 544 + i.val; omega) (Nat.zero_add l.val).symm
    · intro i t l e; exact ld_at _ _ _ _ _ _ _ (by show t.val = 576 + i.val; omega) (Nat.zero_add l.val).symm
    · intro i t l e; exact ld_at _ _ _ _ _ _ _ (by show t.val = 608 + i.val; omega) (Nat.zero_add l.val).symm
    · intro i t l e; exact ld_at _ _ _ _ _ _ _ (by show t.val = 640 + i.val; omega) (Nat.zero_add l.val).symm
    · intro i t l e; exact ld_at _ _ _ _ _ _ _ (by show t.val = 672 + i.val; omega) (Nat.zero_add l.val).symm
    · intro i t l e; exact ld_at _ _ _ _ _ _ _ (by show t.val = 704 + i.val; omega) (Nat.zero_add l.val).symm
    · intro i t l e; exact ld_at _ _ _ _ _ _ _ (by show t.val = 736 + i.val; omega) (Nat.zero_add l.val).symm
    · have h1' : t.val = 512 + (x 1).val := h1
      omega
    · exact h0
  · refine tile_at x0 x1 1 _ _ _ _ _ _ _ _ _ x ?_ ?_ ?_ ?_ ?_ ?_ ?_ ?_ ?_ t k g ?_ ?_ hg
    · intro i g l e; exact ld_at _ _ _ _ _ _ _ (by show g.val = 8 + i.val; omega) (Nat.zero_add l.val).symm
    · intro i t l e; exact ld_at _ _ _ _ _ _ _ (by show t.val = 256 + i.val; omega) (Nat.zero_add l.val).symm
    · intro i t l e; exact ld_at _ _ _ _ _ _ _ (by show t.val = 288 + i.val; omega) (Nat.zero_add l.val).symm
    · intro i t l e; exact ld_at _ _ _ _ _ _ _ (by show t.val = 320 + i.val; omega) (Nat.zero_add l.val).symm
    · intro i t l e; exact ld_at _ _ _ _ _ _ _ (by show t.val = 352 + i.val; omega) (Nat.zero_add l.val).symm
    · intro i t l e; exact ld_at _ _ _ _ _ _ _ (by show t.val = 384 + i.val; omega) (Nat.zero_add l.val).symm
    · intro i t l e; exact ld_at _ _ _ _ _ _ _ (by show t.val = 416 + i.val; omega) (Nat.zero_add l.val).symm
    · intro i t l e; exact ld_at _ _ _ _ _ _ _ (by show t.val = 448 + i.val; omega) (Nat.zero_add l.val).symm
    · intro i t l e; exact ld_at _ _ _ _ _ _ _ (by show t.val = 480 + i.val; omega) (Nat.zero_add l.val).symm
    · have h1' : t.val = 256 + (x 1).val := h1
      omega
    · exact h0
  · refine tile_at x0 x1 0 _ _ _ _ _ _ _ _ _ x ?_ ?_ ?_ ?_ ?_ ?_ ?_ ?_ ?_ t k g ?_ ?_ hg
    · intro i g l e; exact ld_at _ _ _ _ _ _ _ (by show g.val = 0 + i.val; omega) (Nat.zero_add l.val).symm
    · intro i t l e; exact ld_at _ _ _ _ _ _ _ (by show t.val = 0 + i.val; omega) (Nat.zero_add l.val).symm
    · intro i t l e; exact ld_at _ _ _ _ _ _ _ (by show t.val = 32 + i.val; omega) (Nat.zero_add l.val).symm
    · intro i t l e; exact ld_at _ _ _ _ _ _ _ (by show t.val = 64 + i.val; omega) (Nat.zero_add l.val).symm
    · intro i t l e; exact ld_at _ _ _ _ _ _ _ (by show t.val = 96 + i.val; omega) (Nat.zero_add l.val).symm
    · intro i t l e; exact ld_at _ _ _ _ _ _ _ (by show t.val = 128 + i.val; omega) (Nat.zero_add l.val).symm
    · intro i t l e; exact ld_at _ _ _ _ _ _ _ (by show t.val = 160 + i.val; omega) (Nat.zero_add l.val).symm
    · intro i t l e; exact ld_at _ _ _ _ _ _ _ (by show t.val = 192 + i.val; omega) (Nat.zero_add l.val).symm
    · intro i t l e; exact ld_at _ _ _ _ _ _ _ (by show t.val = 224 + i.val; omega) (Nat.zero_add l.val).symm
    · have h1' : t.val = (x 1).val := h1
      omega
    · exact h0

end Cert.WgradIdeal.Value

end
-- ==== Proof.WgradValue.lean ====
module

public import proofs.«01_k».proof.Proof.WgradTile

@[expose] public section

set_option maxRecDepth 16384

noncomputable section

namespace Cert.WgradIdeal.Value

open Cert.WgradIdeal Cert.WgradIdeal.Gen Idealize.ShloMosaic Idealize.ShloMosaic.TcCoe Idealize.SL.Sem Cert.Scale
open Idealize.ShloMosaic.Pipeline (Dat)

variable (m : (ℓ : Loc nD τ sig) → Buf (Elt Ideal) ℓ)

/-- The x codes, as the program's argument. -/
abbrev XC (c : Dev nD) : FVec Ideal S3x2048x12288 .fp8e4m3 := m ((c : Thread nD τ).loc main_arg0)
/-- The x scale bytes, as the program's argument. -/
abbrev XS (c : Dev nD) : IVec S3x64x12288 8 := m ((c : Thread nD τ).loc main_arg1)
/-- The column dequantised dy, as the program's argument. -/
abbrev DC (c : Dev nD) : FVec Ideal S6144x4608 .bf16 := m ((c : Thread nD τ).loc main_arg2)

/-- Entry `(t, k)` of the dequantised x: the code times the number of its scale byte. -/
def xd (X : FVec Ideal S3x2048x12288 .fp8e4m3) (S : IVec S3x64x12288 8) (t : Fin 6144) (k : Fin 12288) : EReal :=
  X (ix3 ⟨t.val / 2048, by omega⟩ ⟨t.val % 2048, by omega⟩ k) * pow2 (S (ix3 ⟨t.val / 2048, by omega⟩ ⟨t.val % 2048 / 32, by omega⟩ k))

/-- The windows' index maps in the point's number. -/
theorem idx : ∀ t : Fin cfg0.N, win0_0.index t = ![0, t.val / 9] ∧ win0_1.index t = ![0, t.val / 9]
    ∧ win0_2.index t = ![0, t.val % 9] ∧ win0_3.index t = ![t.val / 9, t.val % 9] :=
  (by decide +kernel : ∀ t : Fin grid0.N, _)

/-- The block of codes at point `t`: all rows, columns `512 (t / 9) + …`. -/
theorem codes_blk (c : Dev nD) (t : Fin cfg0.N) (r : Fin 6144) (l : Fin 512) (k : Fin 12288) (hk : k.val = t.val / 9 * 512 + l.val) :
    (show FVec Ideal S6144x512 .fp8e4m3 from iblk m c 0 t) (ix2 r l) = XC m c (ix3 ⟨r.val / 2048, by omega⟩ ⟨r.val % 2048, by omega⟩ k) := by
  blk_point [iblk, V, idx t]

/-- The block of scale bytes at point `t`: all rows, columns `512 (t / 9) + …`. -/
theorem scales_blk (c : Dev nD) (t : Fin cfg0.N) (r : Fin 6144) (l : Fin 512) (k : Fin 12288) (hk : k.val = t.val / 9 * 512 + l.val) :
    (show IVec S192x512 8 from iblk m c 1 t) (ix2 ⟨r.val / 32, by omega⟩ l)
      = XS m c (ix3 ⟨r.val / 2048, by omega⟩ ⟨r.val % 2048 / 32, by omega⟩ k) := by
  blk_point [iblk, V, idx t]

/-- The block of the dequantised dy at point `t`: all rows, columns `512 (t % 9) + …`. -/
theorem dc_blk (c : Dev nD) (t : Fin cfg0.N) (r : Fin 6144) (l : Fin 512) (n : Fin 4608) (hn : n.val = t.val % 9 * 512 + l.val) :
    (show FVec Ideal S6144x512 .bf16 from iblk m c 2 t) (ix2 r l) = DC m c (ix2 r n) := by
  blk_point [iblk, V, idx t]

/-- Where the scratch is filled the output block is the product of what was filled in and the dy block. -/
theorem out_A (c : Dev nD) (i : grid0.Coords) (arg2 : Memref sig .tc .vmem S6144x512 .fp8e4m3) (harg2 : arg2.IsWhole) (arg3 : Memref sig .tc .vmem S192x512 .i8) (harg3 : arg3.IsWhole) (arg4 : Memref sig .tc .vmem S6144x512 .bf16) (harg4 : arg4.IsWhole) (arg5 : Memref sig .tc .vmem S512x512 .f32) (harg5 : arg5.IsWhole) (arg6 : Memref sig .tc .vmem S512x6144 .bf16) (harg6 : arg6.IsWhole) (hc0 : cond0_0 i)
    (x0 : Vec Ideal S6144x512 .fp8e4m3) (x1 : Vec Ideal S192x512 .i8) (x2 : Vec Ideal S6144x512 .bf16) :
    out0_A_3 (F := Ideal) c i arg2 harg2 arg3 harg3 arg4 harg4 arg5 harg5 arg6 harg6 hc0 x0 x1 x2
      = k0_pay2 (F := Ideal) (sout0_A_0 (F := Ideal) c i arg2 harg2 arg3 harg3 arg4 harg4 arg5 harg5 arg6 harg6 hc0 x0 x1 x2) x2 := by
  frame_out
  refine congrArg (fun s => k0_pay2 (F := Ideal) s x2) ?_
  rw [View.readCov_eq_canon']
  exact View.ld_unit_lit' (S := S512x6144) _ _ (by decide)

/-- Elsewhere the output block is the product of the scratch as it stood and the dy block. -/
theorem out_B (c : Dev nD) (i : grid0.Coords) (arg2 : Memref sig .tc .vmem S6144x512 .fp8e4m3) (harg2 : arg2.IsWhole) (arg3 : Memref sig .tc .vmem S192x512 .i8) (harg3 : arg3.IsWhole) (arg4 : Memref sig .tc .vmem S6144x512 .bf16) (harg4 : arg4.IsWhole) (arg5 : Memref sig .tc .vmem S512x512 .f32) (harg5 : arg5.IsWhole) (arg6 : Memref sig .tc .vmem S512x6144 .bf16) (harg6 : arg6.IsWhole) (hc0 : ¬cond0_0 i)
    (x0 : Vec Ideal S6144x512 .fp8e4m3) (x1 : Vec Ideal S192x512 .i8) (x2 : Vec Ideal S6144x512 .bf16) (xs0 : Vec Ideal S512x6144 .bf16) :
    out0_B_3 (F := Ideal) c i arg2 harg2 arg3 harg3 arg4 harg4 arg5 harg5 arg6 harg6 hc0 x0 x1 x2 xs0 = k0_pay2 (F := Ideal) xs0 x2 := by
  frame_out

/-- The product's entry: the sum over the 6144 rows. -/
theorem pay2_apply (s : FVec Ideal S512x6144 .bf16) (d : FVec Ideal S6144x512 .bf16) (k l : Fin 512) :
    k0_pay2 (F := Ideal) s d (ix2 k l) = ∑ r : Fin 6144, s (ix2 k r) * d (ix2 r l) := by
  pointwise [k0_pay2]

/-- The scratch after every point: the dequantised x of the point's 512 columns, transposed. It is filled at the first
    of nine points and kept at the other eight, whose columns are the same. -/
theorem scratch_inv (c : Dev nD) : ∀ (n : ℕ) (hn : n < cfg0.N) (l : Fin 512) (r : Fin 6144) (k : Fin 12288),
    k.val = n / 9 * 512 + l.val →
    (show FVec Ideal S512x6144 .bf16 from (outsAt0 m c n hn).2) (ix2 l r) = xd (XC m c) (XS m c) r k := by
  intro n
  induction n using Nat.strong_induction_on with
  | _ n ih =>
    intro hn l r k hk
    by_cases h : n % 9 = 0
    · rw [outsAt0_A m c ⟨n, hn⟩ h]
      dsimp only
      rw [scratch_A (g := ⟨r.val / 32, by omega⟩) (hg := rfl)]
      exact congrArg₂ (· * ·) (codes_blk m c ⟨n, hn⟩ r l k hk) (congrArg pow2 (scales_blk m c ⟨n, hn⟩ r l k hk))
    · rw [outsAt0_B m c ⟨n, hn⟩ h]
      dsimp only
      unfold sout0_B_0
      exact ih (n - 1) (by omega) _ l r k (by omega)

/-- The output block after every point. -/
theorem out_at (c : Dev nD) (t : Fin cfg0.N) (l q : Fin 512) (k : Fin 12288) (n : Fin 4608)
    (hk : k.val = t.val / 9 * 512 + l.val) (hn : n.val = t.val % 9 * 512 + q.val) :
    (show FVec Ideal S512x512 .f32 from (outsAt0 m c t.val t.isLt).1) (ix2 l q)
      = ∑ r : Fin 6144, xd (XC m c) (XS m c) r k * DC m c (ix2 r n) := by
  by_cases h : t.val % 9 = 0
  · have hs := fun r => scratch_inv m c t.val t.isLt l r k hk
    rw [outsAt0_A m c t h] at hs ⊢
    dsimp only at hs ⊢
    rw [out_A]
    refine (pay2_apply _ _ l q).trans (Finset.sum_congr rfl fun r _ => ?_)
    exact congrArg₂ (· * ·) (hs r) (dc_blk m c t r q n hn)
  · have hs := fun r => scratch_inv m c (t.val - 1) (Nat.lt_of_le_of_lt (Nat.sub_le _ _) t.isLt) l r k (by omega)
    rw [outsAt0_B m c t h]
    dsimp only
    rw [out_B]
    refine (pay2_apply _ _ l q).trans (Finset.sum_congr rfl fun r _ => ?_)
    exact congrArg₂ (· * ·) (hs r) (dc_blk m c t r q n hn)

/-- The result of the kernel: entry `(k, n)` is the sum over all 6144 rows of the dequantised x times the dequantised dy. -/
def DW (X : FVec Ideal S3x2048x12288 .fp8e4m3) (S : IVec S3x64x12288 8) (D : FVec Ideal S6144x4608 .bf16) :
    FVec Ideal S12288x4608 .f32 :=
  fun i => ∑ r : Fin 6144, xd X S r (i 0) * D (ix2 r (i 1))

/-- The result array after the run. -/
theorem final (c : Dev nD) : (dats m 0 c).arrAt 3 cfg0.N = DW (XC m c) (XS m c) (DC m c) := by
  refine (dats m 0 c).arrAt_eq_of_covers 3 _ (by decide +kernel) fun t _ y => ?_
  blk_simp
  rw [after0_3]
  idx_vars y
  refine (out_at m c t y0 y1 _ _ ?_ ?_)
  · blk_simp [idx t]
  · blk_simp [idx t]

end Cert.WgradIdeal.Value

end
-- ==== Proof.WgradRefValue.lean ====
module

public import proofs.«01_k».proof.Proof.Scale
public import proofs.«01_k».proof.Proof.Gen.WgradRefIdeal.Value

@[expose] public section

set_option maxRecDepth 16384

noncomputable section

namespace Cert.WgradRefIdeal.Value

open Cert.WgradRefIdeal Cert.WgradRefIdeal.Gen Idealize.ShloMosaic Idealize.ShloMosaic.TcCoe Idealize.SL.Sem Cert.Scale
open Idealize.ShloMosaic.Pipeline (Dat)

variable (m : (ℓ : Loc nD τ sig) → Buf (Elt Ideal) ℓ)

/-- The reference's entry `(k, n)`: the sum over batch and sequence of code times number of its scale byte times dy. -/
theorem pay1_apply (X : FVec Ideal S3x2048x12288 .fp8e4m3) (S : IVec S3x64x12288 8) (D : FVec Ideal S3x2048x4608 .bf16)
    (k : Fin 12288) (n : Fin 4608) :
    k0_pay1 (F := Ideal) X S D (ix2 k n)
      = ∑ b : Fin 3, ∑ s : Fin 2048, X (ix3 b s k) * pow2 (S (ix3 b ⟨s.val / 32, by omega⟩ k)) * D (ix3 b s n) := by
  pointwise [k0_pay1]
  exact Finset.sum_congr rfl fun b _ => Finset.sum_congr rfl fun s _ => refPow2_term _ _ _

/-- The reference's windows all sit at the origin. -/
theorem idx : ∀ t : Fin cfg0.N, win0_0.index t = ![0, 0, 0] ∧ win0_1.index t = ![0, 0, 0]
    ∧ win0_2.index t = ![0, 0, 0] ∧ win0_3.index t = ![0, 0] :=
  (by decide +kernel : ∀ t : Fin grid0.N, _)

/-- The reference's result array after its run. -/
theorem final (c : Dev nD) : (dats m 0 c).arrAt 3 cfg0.N
    = k0_pay1 (F := Ideal) (m ((c : Thread nD τ).loc main_arg0)) (m ((c : Thread nD τ).loc main_arg1))
        (shapeCast S3x2048x4608 (show FVec Ideal S6144x4608 .bf16 from m ((c : Thread nD τ).loc main_arg2)) (by decide)) := by
  refine (dats m 0 c).arrAt_eq_of_after_last 3 t0_0 (by decide +kernel) _ fun j => ?_
  blk_simp
  rw [after0_3]
  frame_out
  blk_point [iblk, V, idx t0_0]

end Cert.WgradRefIdeal.Value

end
-- ==== Proof.WgradClaim.lean ====
module

public import proofs.«01_k».proof.Defs
public import proofs.«01_k».proof.Proof.WgradValue
public import proofs.«01_k».proof.Proof.WgradRefValue

@[expose] public section

set_option maxRecDepth 16384

noncomputable section

namespace Cert.WgradClaim

open Idealize.ShloMosaic Idealize.ShloMosaic.TcCoe Idealize.SL.Sem Cert.Scale

/-- The kernel's sum over 6144 rows is the reference's sum over 3 batches of 2048 positions. -/
theorem bridge (X : FVec Ideal Cert.WgradIdeal.S3x2048x12288 .fp8e4m3) (S : IVec Cert.WgradIdeal.S3x64x12288 8)
    (D : FVec Ideal Cert.WgradIdeal.S6144x4608 .bf16) (h) :
    Cert.WgradIdeal.Value.DW X S D
      = Cert.WgradRefIdeal.Gen.k0_pay1 (F := Ideal) X S (shapeCast Cert.WgradRefIdeal.S3x2048x4608 D h) := by
  funext i
  idx_vars i
  refine Eq.trans ?_ (Cert.WgradRefIdeal.Value.pay1_apply X S _ i0 i1).symm
  refine Fin.sum_divmod_congr fun t ha hs => ?_
  refine congrArg₂ (· * ·) rfl ?_
  pointwise
  blk_ext

/-- The weight gradient kernel and its reference end with equal results over the extended reals. -/
theorem algebraic : Cert.algebraic_WgradIdeal_WgradRefIdeal (hWgradIdeal := Cert.WgradIdeal.Gen.facts)
    (hWgradRefIdeal := Cert.WgradRefIdeal.Gen.facts) := by
  intro m g m' g' _ hag
  refine ⟨fun c => Cert.WgradIdeal.Value.DW (Cert.WgradIdeal.Value.XC m c) (Cert.WgradIdeal.Value.XS m c) (Cert.WgradIdeal.Value.DC m c), ?_, ?_⟩
  · refine (θ_run _ _ _).mono (fun r h c => ?_) (Cert.WgradIdeal.Value.run_blocks m g)
    obtain ⟨h0, h1, h2, h3⟩ := h c
    exact ⟨h0.trans (Cert.WgradIdeal.Value.final m c), h1, h2, h3⟩
  · refine (θ_run _ _ _).mono (fun r h c => ?_) (Cert.WgradRefIdeal.Value.run_blocks m' g')
    obtain ⟨h0, h1, h2, h3⟩ := h c
    obtain ⟨a0, a1, a2⟩ := hag c
    refine ⟨h0.trans ((Cert.WgradRefIdeal.Value.final m' c).trans ?_), h1, h2, h3⟩
    rw [a0, a1, a2]
    exact (bridge _ _ _ _).symm

end Cert.WgradClaim

end
-- ==== Proof.DgradTile.lean ====
module

public import proofs.«01_k».proof.Proof.Gen.DgradIdeal.Value
public import proofs.«01_k».proof.Proof.Scale

@[expose] public section

set_option maxRecDepth 16384

noncomputable section

namespace Cert.DgradIdeal.Value

open Cert.DgradIdeal Cert.DgradIdeal.Gen Idealize.ShloMosaic Idealize.ShloMosaic.TcCoe Idealize.SL.Sem Cert.Scale
open Idealize.ShloMosaic.Pipeline (Dat)

/-- The kernel's powers of two of 256 rows of scale bytes, padded to 256 columns. -/
def scaleRows (s : Vec Ideal S256x144 .i8) : FVec Ideal S256x256 .bf16 := k0_pay3 (F := Ideal) s

/-- Entry by entry, `scaleRows` is the number the byte stands for, in the columns that hold bytes. -/
theorem scaleRows_apply (s : Vec Ideal S256x144 .i8) (i : Fin 256) (l : Fin 256) (g : Fin 144) (h : l.val = g.val) :
    scaleRows s (ix2 i l) = pow2 (s (ix2 i g)) := by
  have hl : l.val < 144 := by omega
  pointwise [scaleRows, k0_pay3, pow2]
  rw [dif_pos hl]
  have hg : (⟨l.val, hl⟩ : Fin 144) = g := Fin.ext h
  subst hg
  rfl

/-- The lanes the kernel gathers from: lane `l` takes column `l / 32 + first`. -/
def lanes (first : BitVec 32) : IVec S256x128 32 :=
  shapeCast S256x128 (shapeCast S256x128x1
    (select (cmpi .slt (addi (shrui (iota .tc S256x128 32 [1] iota_S256x128_d1_w32) (broadcast S256x128 5#32)) (broadcast S256x128 first)) (broadcast S256x128 0#32))
      (addi (addi (shrui (iota .tc S256x128 32 [1] iota_S256x128_d1_w32) (broadcast S256x128 5#32)) (broadcast S256x128 first)) (broadcast S256x128 128#32))
      (addi (shrui (iota .tc S256x128 32 [1] iota_S256x128_d1_w32) (broadcast S256x128 5#32)) (broadcast S256x128 first)))
    shapeCasts_S256x128_S256x128x1) shapeCasts_S256x128x1_S256x128

/-- What the kernel stores for 256 rows and 128 columns of codes: each code times its block's scale. -/
def tile (o : Fin 2 → ℕ) (ho : S256x256.Slices o S256x128) (first : BitVec 32) (s : Vec Ideal S256x144 .i8)
    (a : Vec Ideal S256x128 .fp8e4m3) : FVec Ideal S256x128 .bf16 :=
  shapeCast S256x128 (mulf (extf .bf16 a bitsLt_fp8e4m3_bf16)
    (truncf .bf16 (dynamicGather 1 (extf .f32 (extractStridedSlice S256x128 o (scaleRows s) ho) bitsLt_bf16_f32) (lanes first)) bitsLt_bf16_f32))
    shapeCasts_S256x128_S256x128

/-- Every lane's gather index, worked out on the 32-bit words. -/
theorem lane_word : ∀ (f : Fin 32) (l : Fin 128),
    (Scalar.select
      (IntOp.cmpi CmpIPredicate.slt
        (IntOp.addi (IntOp.shrui ArithUnit.vector (BitVec.ofNat 32 l.val) 5#32) (BitVec.ofNat 32 (4 * f.val))) 0#32)
      (IntOp.addi (IntOp.addi (IntOp.shrui ArithUnit.vector (BitVec.ofNat 32 l.val) 5#32) (BitVec.ofNat 32 (4 * f.val)))
        128#32)
      (IntOp.addi (IntOp.shrui ArithUnit.vector (BitVec.ofNat 32 l.val) 5#32) (BitVec.ofNat 32 (4 * f.val)))).toNat % 128
      = l.val / 32 + 4 * f.val := by
  decide +kernel

/-- Lane `l` of the tile whose first column is `4 f` gathers from column `l / 32 + 4 f`. -/
theorem lanes_at (f : Fin 32) (i : Fin 256) (l : Fin 128) :
    (lanes (BitVec.ofNat 32 (4 * f.val)) (ix2 i l)).toNat % 128 = l.val / 32 + 4 * f.val := by
  pointwise [lanes]
  exact lane_word f l

/-- A tile's entry: if the codes are rows `256 r + …`, columns `128 c + …` of `X0` and the scale bytes are rows
    `256 r + …` of `X1`, the entry at `(i, l)` is the code in row `256 r + i`, column `128 c + l`, times the number of
    the scale byte in that row, column `(128 c + l) / 32`. -/
theorem tile_at (X0 : Vec Ideal S512x4608 .fp8e4m3) (X1 : Vec Ideal S512x144 .i8) (r c : ℕ) (f : Fin 32)
    (o : Fin 2 → ℕ) (ho : S256x256.Slices o S256x128) (first : BitVec 32) (s : Vec Ideal S256x144 .i8)
    (a : Vec Ideal S256x128 .fp8e4m3) (x : S256x128.Idx)
    (hf : first = BitVec.ofNat 32 (4 * f.val)) (h0 : o 0 = 0) (h1 : o 1 + 4 * f.val = 4 * c)
    (hs : ∀ (i : Fin 256) (k : Fin 512) (l : Fin 144), k.val = 256 * r + i.val → s (ix2 i l) = X1 (ix2 k l))
    (ha : ∀ (i : Fin 256) (l : Fin 128) (k : Fin 512) (n : Fin 4608), k.val = 256 * r + i.val → n.val = 128 * c + l.val →
      a (ix2 i l) = X0 (ix2 k n))
    (k : Fin 512) (n : Fin 4608) (g : Fin 144) (hk : k.val = 256 * r + (x 0).val) (hn : n.val = 128 * c + (x 1).val)
    (hg : g.val = n.val / 32) :
    tile o ho first s a x = X0 (ix2 k n) * pow2 (X1 (ix2 k g)) := by
  idx_vars x
  subst hf
  replace hk : k.val = 256 * r + x0.val := hk
  replace hn : n.val = 128 * c + x1.val := hn
  have e := lanes_at f x0 x1
  pointwise [tile]
  refine congrArg₂ (· * ·) (ha x0 x1 k n hk hn) ?_
  refine (scaleRows_apply s _ _ g ?_).trans (congrArg pow2 (hs _ _ _ ?_))
  · show o 1 + _ % 128 = g.val
    rw [e]; omega
  · show k.val = 256 * r + (o 0 + x0.val)
    omega

/-- Any part of an array loaded: the entry at `i` is the array's at the offset plus `i`. -/
theorem ld_at {m n p q : ℕ} {e : EltTy} (X : Vec Ideal ⟨2, ![m, n]⟩ e) (o : Fin 2 → ℕ) (h : ∀ a : Fin 2, o a + ![p, q] a ≤ (⟨2, ![m, n]⟩ : Shape).size a) (i : Fin p) (l : Fin q) (t : Fin m) (k : Fin n)
    (ht : t.val = o 0 + i.val) (hk : k.val = o 1 + l.val) :
    View.ld X (Rect.unit (s := ⟨2, ![m, n]⟩) o ![p, q] h) (ix2 i l) = X (ix2 t k) := by
  refine congrArg X ?_
  funext a
  match a with
  | ⟨0, _⟩ => exact Fin.ext (by show o 0 + 1 * i.val = t.val; omega)
  | ⟨1, _⟩ => exact Fin.ext (by show o 1 + 1 * l.val = k.val; omega)

set_option maxHeartbeats 4000000 in
/-- What the kernel leaves in the scratch where it fills it: the dequantised codes, entry `(k, n)` the code there times
    the number of the scale byte in row `k`, column `n / 32`. -/
theorem scratch_A (c : Dev nD) (i : grid0.Coords) (arg2 : Memref sig .tc .vmem S1024x4608 .bf16) (harg2 : arg2.IsWhole) (arg3 : Memref sig .tc .vmem S512x4608 .fp8e4m3) (harg3 : arg3.IsWhole) (arg4 : Memref sig .tc .vmem S512x144 .i8) (harg4 : arg4.IsWhole) (arg5 : Memref sig .tc .vmem S1024x512 .bf16) (harg5 : arg5.IsWhole) (arg6 : Memref sig .tc .vmem S512x4608 .bf16) (harg6 : arg6.IsWhole) (hc0 : cond0_0 i)
    (x0 : Vec Ideal S1024x4608 .bf16) (x1 : Vec Ideal S512x4608 .fp8e4m3) (x2 : Vec Ideal S512x144 .i8)
    (k : Fin 512) (n : Fin 4608) (g : Fin 144) (hg : g.val = n.val / 32) :
    sout0_A_0 (F := Ideal) c i arg2 harg2 arg3 harg3 arg4 harg4 arg5 harg5 arg6 harg6 hc0 x0 x1 x2 (ix2 k n)
      = x1 (ix2 k n) * pow2 (x2 (ix2 k g)) := by
  frame_out
  canon_tiles x h
  · refine tile_at x1 x2 1 35 3 ![0, 128] slices_S256x256_o0_128_S256x128 12#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 4480 + l.val; omega)
    · have h0' : k.val = 256 + (x 0).val := h0
      omega
    · have h1' : n.val = 4480 + (x 1).val := h1
      omega
  · refine tile_at x1 x2 1 34 2 ![0, 128] slices_S256x256_o0_128_S256x128 8#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 4352 + l.val; omega)
    · have h0' : k.val = 256 + (x 0).val := h0
      omega
    · have h1' : n.val = 4352 + (x 1).val := h1
      omega
  · refine tile_at x1 x2 1 33 1 ![0, 128] slices_S256x256_o0_128_S256x128 4#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 4224 + l.val; omega)
    · have h0' : k.val = 256 + (x 0).val := h0
      omega
    · have h1' : n.val = 4224 + (x 1).val := h1
      omega
  · refine tile_at x1 x2 1 32 0 ![0, 128] slices_S256x256_o0_128_S256x128 0#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 4096 + l.val; omega)
    · have h0' : k.val = 256 + (x 0).val := h0
      omega
    · have h1' : n.val = 4096 + (x 1).val := h1
      omega
  · refine tile_at x1 x2 1 31 31 ![0, 0] slices_S256x256_o0_0_S256x128 124#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 3968 + l.val; omega)
    · have h0' : k.val = 256 + (x 0).val := h0
      omega
    · have h1' : n.val = 3968 + (x 1).val := h1
      omega
  · refine tile_at x1 x2 1 30 30 ![0, 0] slices_S256x256_o0_0_S256x128 120#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 3840 + l.val; omega)
    · have h0' : k.val = 256 + (x 0).val := h0
      omega
    · have h1' : n.val = 3840 + (x 1).val := h1
      omega
  · refine tile_at x1 x2 1 29 29 ![0, 0] slices_S256x256_o0_0_S256x128 116#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 3712 + l.val; omega)
    · have h0' : k.val = 256 + (x 0).val := h0
      omega
    · have h1' : n.val = 3712 + (x 1).val := h1
      omega
  · refine tile_at x1 x2 1 28 28 ![0, 0] slices_S256x256_o0_0_S256x128 112#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 3584 + l.val; omega)
    · have h0' : k.val = 256 + (x 0).val := h0
      omega
    · have h1' : n.val = 3584 + (x 1).val := h1
      omega
  · refine tile_at x1 x2 1 27 27 ![0, 0] slices_S256x256_o0_0_S256x128 108#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 3456 + l.val; omega)
    · have h0' : k.val = 256 + (x 0).val := h0
      omega
    · have h1' : n.val = 3456 + (x 1).val := h1
      omega
  · refine tile_at x1 x2 1 26 26 ![0, 0] slices_S256x256_o0_0_S256x128 104#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 3328 + l.val; omega)
    · have h0' : k.val = 256 + (x 0).val := h0
      omega
    · have h1' : n.val = 3328 + (x 1).val := h1
      omega
  · refine tile_at x1 x2 1 25 25 ![0, 0] slices_S256x256_o0_0_S256x128 100#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 3200 + l.val; omega)
    · have h0' : k.val = 256 + (x 0).val := h0
      omega
    · have h1' : n.val = 3200 + (x 1).val := h1
      omega
  · refine tile_at x1 x2 1 24 24 ![0, 0] slices_S256x256_o0_0_S256x128 96#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 3072 + l.val; omega)
    · have h0' : k.val = 256 + (x 0).val := h0
      omega
    · have h1' : n.val = 3072 + (x 1).val := h1
      omega
  · refine tile_at x1 x2 1 23 23 ![0, 0] slices_S256x256_o0_0_S256x128 92#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 2944 + l.val; omega)
    · have h0' : k.val = 256 + (x 0).val := h0
      omega
    · have h1' : n.val = 2944 + (x 1).val := h1
      omega
  · refine tile_at x1 x2 1 22 22 ![0, 0] slices_S256x256_o0_0_S256x128 88#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 2816 + l.val; omega)
    · have h0' : k.val = 256 + (x 0).val := h0
      omega
    · have h1' : n.val = 2816 + (x 1).val := h1
      omega
  · refine tile_at x1 x2 1 21 21 ![0, 0] slices_S256x256_o0_0_S256x128 84#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 2688 + l.val; omega)
    · have h0' : k.val = 256 + (x 0).val := h0
      omega
    · have h1' : n.val = 2688 + (x 1).val := h1
      omega
  · refine tile_at x1 x2 1 20 20 ![0, 0] slices_S256x256_o0_0_S256x128 80#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 2560 + l.val; omega)
    · have h0' : k.val = 256 + (x 0).val := h0
      omega
    · have h1' : n.val = 2560 + (x 1).val := h1
      omega
  · refine tile_at x1 x2 1 19 19 ![0, 0] slices_S256x256_o0_0_S256x128 76#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 2432 + l.val; omega)
    · have h0' : k.val = 256 + (x 0).val := h0
      omega
    · have h1' : n.val = 2432 + (x 1).val := h1
      omega
  · refine tile_at x1 x2 1 18 18 ![0, 0] slices_S256x256_o0_0_S256x128 72#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 2304 + l.val; omega)
    · have h0' : k.val = 256 + (x 0).val := h0
      omega
    · have h1' : n.val = 2304 + (x 1).val := h1
      omega
  · refine tile_at x1 x2 1 17 17 ![0, 0] slices_S256x256_o0_0_S256x128 68#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 2176 + l.val; omega)
    · have h0' : k.val = 256 + (x 0).val := h0
      omega
    · have h1' : n.val = 2176 + (x 1).val := h1
      omega
  · refine tile_at x1 x2 1 16 16 ![0, 0] slices_S256x256_o0_0_S256x128 64#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 2048 + l.val; omega)
    · have h0' : k.val = 256 + (x 0).val := h0
      omega
    · have h1' : n.val = 2048 + (x 1).val := h1
      omega
  · refine tile_at x1 x2 1 15 15 ![0, 0] slices_S256x256_o0_0_S256x128 60#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 1920 + l.val; omega)
    · have h0' : k.val = 256 + (x 0).val := h0
      omega
    · have h1' : n.val = 1920 + (x 1).val := h1
      omega
  · refine tile_at x1 x2 1 14 14 ![0, 0] slices_S256x256_o0_0_S256x128 56#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 1792 + l.val; omega)
    · have h0' : k.val = 256 + (x 0).val := h0
      omega
    · have h1' : n.val = 1792 + (x 1).val := h1
      omega
  · refine tile_at x1 x2 1 13 13 ![0, 0] slices_S256x256_o0_0_S256x128 52#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 1664 + l.val; omega)
    · have h0' : k.val = 256 + (x 0).val := h0
      omega
    · have h1' : n.val = 1664 + (x 1).val := h1
      omega
  · refine tile_at x1 x2 1 12 12 ![0, 0] slices_S256x256_o0_0_S256x128 48#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 1536 + l.val; omega)
    · have h0' : k.val = 256 + (x 0).val := h0
      omega
    · have h1' : n.val = 1536 + (x 1).val := h1
      omega
  · refine tile_at x1 x2 1 11 11 ![0, 0] slices_S256x256_o0_0_S256x128 44#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 1408 + l.val; omega)
    · have h0' : k.val = 256 + (x 0).val := h0
      omega
    · have h1' : n.val = 1408 + (x 1).val := h1
      omega
  · refine tile_at x1 x2 1 10 10 ![0, 0] slices_S256x256_o0_0_S256x128 40#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 1280 + l.val; omega)
    · have h0' : k.val = 256 + (x 0).val := h0
      omega
    · have h1' : n.val = 1280 + (x 1).val := h1
      omega
  · refine tile_at x1 x2 1 9 9 ![0, 0] slices_S256x256_o0_0_S256x128 36#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 1152 + l.val; omega)
    · have h0' : k.val = 256 + (x 0).val := h0
      omega
    · have h1' : n.val = 1152 + (x 1).val := h1
      omega
  · refine tile_at x1 x2 1 8 8 ![0, 0] slices_S256x256_o0_0_S256x128 32#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 1024 + l.val; omega)
    · have h0' : k.val = 256 + (x 0).val := h0
      omega
    · have h1' : n.val = 1024 + (x 1).val := h1
      omega
  · refine tile_at x1 x2 1 7 7 ![0, 0] slices_S256x256_o0_0_S256x128 28#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 896 + l.val; omega)
    · have h0' : k.val = 256 + (x 0).val := h0
      omega
    · have h1' : n.val = 896 + (x 1).val := h1
      omega
  · refine tile_at x1 x2 1 6 6 ![0, 0] slices_S256x256_o0_0_S256x128 24#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 768 + l.val; omega)
    · have h0' : k.val = 256 + (x 0).val := h0
      omega
    · have h1' : n.val = 768 + (x 1).val := h1
      omega
  · refine tile_at x1 x2 1 5 5 ![0, 0] slices_S256x256_o0_0_S256x128 20#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 640 + l.val; omega)
    · have h0' : k.val = 256 + (x 0).val := h0
      omega
    · have h1' : n.val = 640 + (x 1).val := h1
      omega
  · refine tile_at x1 x2 1 4 4 ![0, 0] slices_S256x256_o0_0_S256x128 16#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 512 + l.val; omega)
    · have h0' : k.val = 256 + (x 0).val := h0
      omega
    · have h1' : n.val = 512 + (x 1).val := h1
      omega
  · refine tile_at x1 x2 1 3 3 ![0, 0] slices_S256x256_o0_0_S256x128 12#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 384 + l.val; omega)
    · have h0' : k.val = 256 + (x 0).val := h0
      omega
    · have h1' : n.val = 384 + (x 1).val := h1
      omega
  · refine tile_at x1 x2 1 2 2 ![0, 0] slices_S256x256_o0_0_S256x128 8#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 256 + l.val; omega)
    · have h0' : k.val = 256 + (x 0).val := h0
      omega
    · have h1' : n.val = 256 + (x 1).val := h1
      omega
  · refine tile_at x1 x2 1 1 1 ![0, 0] slices_S256x256_o0_0_S256x128 4#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 128 + l.val; omega)
    · have h0' : k.val = 256 + (x 0).val := h0
      omega
    · have h1' : n.val = 128 + (x 1).val := h1
      omega
  · refine tile_at x1 x2 1 0 0 ![0, 0] slices_S256x256_o0_0_S256x128 0#32 _ _ x rfl rfl rfl ?_ ?_ k n g ?_ ?_ hg
    · intro i k l e; exact ld_at _ _ _ _ _ _ _ (by show k.val = 256 + i.val; omega) (Nat.zero_add l.val).symm
    · intro i l k n e e'; exact ld_at _ _ _ _ _ _ _ (by show k.val = 256 + i.val; omega) (by show n.val = 0 + l.val; omega)
    · have h0' : k.val = 256 + (x 0).val := h0
      omega
    · have h1' : n.val = 0 + (x 1).val := h1.trans (Nat.zero_add _).symm
      omega
  · refine tile_at x1 x2 0 35 3 ![0, 128] slices_S256x256_o0_128_S256x128 12#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 4480 + l.val; omega)
    · have h0' : k.val = 0 + (x 0).val := h0.trans (Nat.zero_add _).symm
      omega
    · have h1' : n.val = 4480 + (x 1).val := h1
      omega
  · refine tile_at x1 x2 0 34 2 ![0, 128] slices_S256x256_o0_128_S256x128 8#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 4352 + l.val; omega)
    · have h0' : k.val = 0 + (x 0).val := h0.trans (Nat.zero_add _).symm
      omega
    · have h1' : n.val = 4352 + (x 1).val := h1
      omega
  · refine tile_at x1 x2 0 33 1 ![0, 128] slices_S256x256_o0_128_S256x128 4#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 4224 + l.val; omega)
    · have h0' : k.val = 0 + (x 0).val := h0.trans (Nat.zero_add _).symm
      omega
    · have h1' : n.val = 4224 + (x 1).val := h1
      omega
  · refine tile_at x1 x2 0 32 0 ![0, 128] slices_S256x256_o0_128_S256x128 0#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 4096 + l.val; omega)
    · have h0' : k.val = 0 + (x 0).val := h0.trans (Nat.zero_add _).symm
      omega
    · have h1' : n.val = 4096 + (x 1).val := h1
      omega
  · refine tile_at x1 x2 0 31 31 ![0, 0] slices_S256x256_o0_0_S256x128 124#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 3968 + l.val; omega)
    · have h0' : k.val = 0 + (x 0).val := h0.trans (Nat.zero_add _).symm
      omega
    · have h1' : n.val = 3968 + (x 1).val := h1
      omega
  · refine tile_at x1 x2 0 30 30 ![0, 0] slices_S256x256_o0_0_S256x128 120#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 3840 + l.val; omega)
    · have h0' : k.val = 0 + (x 0).val := h0.trans (Nat.zero_add _).symm
      omega
    · have h1' : n.val = 3840 + (x 1).val := h1
      omega
  · refine tile_at x1 x2 0 29 29 ![0, 0] slices_S256x256_o0_0_S256x128 116#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 3712 + l.val; omega)
    · have h0' : k.val = 0 + (x 0).val := h0.trans (Nat.zero_add _).symm
      omega
    · have h1' : n.val = 3712 + (x 1).val := h1
      omega
  · refine tile_at x1 x2 0 28 28 ![0, 0] slices_S256x256_o0_0_S256x128 112#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 3584 + l.val; omega)
    · have h0' : k.val = 0 + (x 0).val := h0.trans (Nat.zero_add _).symm
      omega
    · have h1' : n.val = 3584 + (x 1).val := h1
      omega
  · refine tile_at x1 x2 0 27 27 ![0, 0] slices_S256x256_o0_0_S256x128 108#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 3456 + l.val; omega)
    · have h0' : k.val = 0 + (x 0).val := h0.trans (Nat.zero_add _).symm
      omega
    · have h1' : n.val = 3456 + (x 1).val := h1
      omega
  · refine tile_at x1 x2 0 26 26 ![0, 0] slices_S256x256_o0_0_S256x128 104#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 3328 + l.val; omega)
    · have h0' : k.val = 0 + (x 0).val := h0.trans (Nat.zero_add _).symm
      omega
    · have h1' : n.val = 3328 + (x 1).val := h1
      omega
  · refine tile_at x1 x2 0 25 25 ![0, 0] slices_S256x256_o0_0_S256x128 100#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 3200 + l.val; omega)
    · have h0' : k.val = 0 + (x 0).val := h0.trans (Nat.zero_add _).symm
      omega
    · have h1' : n.val = 3200 + (x 1).val := h1
      omega
  · refine tile_at x1 x2 0 24 24 ![0, 0] slices_S256x256_o0_0_S256x128 96#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 3072 + l.val; omega)
    · have h0' : k.val = 0 + (x 0).val := h0.trans (Nat.zero_add _).symm
      omega
    · have h1' : n.val = 3072 + (x 1).val := h1
      omega
  · refine tile_at x1 x2 0 23 23 ![0, 0] slices_S256x256_o0_0_S256x128 92#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 2944 + l.val; omega)
    · have h0' : k.val = 0 + (x 0).val := h0.trans (Nat.zero_add _).symm
      omega
    · have h1' : n.val = 2944 + (x 1).val := h1
      omega
  · refine tile_at x1 x2 0 22 22 ![0, 0] slices_S256x256_o0_0_S256x128 88#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 2816 + l.val; omega)
    · have h0' : k.val = 0 + (x 0).val := h0.trans (Nat.zero_add _).symm
      omega
    · have h1' : n.val = 2816 + (x 1).val := h1
      omega
  · refine tile_at x1 x2 0 21 21 ![0, 0] slices_S256x256_o0_0_S256x128 84#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 2688 + l.val; omega)
    · have h0' : k.val = 0 + (x 0).val := h0.trans (Nat.zero_add _).symm
      omega
    · have h1' : n.val = 2688 + (x 1).val := h1
      omega
  · refine tile_at x1 x2 0 20 20 ![0, 0] slices_S256x256_o0_0_S256x128 80#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 2560 + l.val; omega)
    · have h0' : k.val = 0 + (x 0).val := h0.trans (Nat.zero_add _).symm
      omega
    · have h1' : n.val = 2560 + (x 1).val := h1
      omega
  · refine tile_at x1 x2 0 19 19 ![0, 0] slices_S256x256_o0_0_S256x128 76#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 2432 + l.val; omega)
    · have h0' : k.val = 0 + (x 0).val := h0.trans (Nat.zero_add _).symm
      omega
    · have h1' : n.val = 2432 + (x 1).val := h1
      omega
  · refine tile_at x1 x2 0 18 18 ![0, 0] slices_S256x256_o0_0_S256x128 72#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 2304 + l.val; omega)
    · have h0' : k.val = 0 + (x 0).val := h0.trans (Nat.zero_add _).symm
      omega
    · have h1' : n.val = 2304 + (x 1).val := h1
      omega
  · refine tile_at x1 x2 0 17 17 ![0, 0] slices_S256x256_o0_0_S256x128 68#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 2176 + l.val; omega)
    · have h0' : k.val = 0 + (x 0).val := h0.trans (Nat.zero_add _).symm
      omega
    · have h1' : n.val = 2176 + (x 1).val := h1
      omega
  · refine tile_at x1 x2 0 16 16 ![0, 0] slices_S256x256_o0_0_S256x128 64#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 2048 + l.val; omega)
    · have h0' : k.val = 0 + (x 0).val := h0.trans (Nat.zero_add _).symm
      omega
    · have h1' : n.val = 2048 + (x 1).val := h1
      omega
  · refine tile_at x1 x2 0 15 15 ![0, 0] slices_S256x256_o0_0_S256x128 60#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 1920 + l.val; omega)
    · have h0' : k.val = 0 + (x 0).val := h0.trans (Nat.zero_add _).symm
      omega
    · have h1' : n.val = 1920 + (x 1).val := h1
      omega
  · refine tile_at x1 x2 0 14 14 ![0, 0] slices_S256x256_o0_0_S256x128 56#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 1792 + l.val; omega)
    · have h0' : k.val = 0 + (x 0).val := h0.trans (Nat.zero_add _).symm
      omega
    · have h1' : n.val = 1792 + (x 1).val := h1
      omega
  · refine tile_at x1 x2 0 13 13 ![0, 0] slices_S256x256_o0_0_S256x128 52#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 1664 + l.val; omega)
    · have h0' : k.val = 0 + (x 0).val := h0.trans (Nat.zero_add _).symm
      omega
    · have h1' : n.val = 1664 + (x 1).val := h1
      omega
  · refine tile_at x1 x2 0 12 12 ![0, 0] slices_S256x256_o0_0_S256x128 48#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 1536 + l.val; omega)
    · have h0' : k.val = 0 + (x 0).val := h0.trans (Nat.zero_add _).symm
      omega
    · have h1' : n.val = 1536 + (x 1).val := h1
      omega
  · refine tile_at x1 x2 0 11 11 ![0, 0] slices_S256x256_o0_0_S256x128 44#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 1408 + l.val; omega)
    · have h0' : k.val = 0 + (x 0).val := h0.trans (Nat.zero_add _).symm
      omega
    · have h1' : n.val = 1408 + (x 1).val := h1
      omega
  · refine tile_at x1 x2 0 10 10 ![0, 0] slices_S256x256_o0_0_S256x128 40#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 1280 + l.val; omega)
    · have h0' : k.val = 0 + (x 0).val := h0.trans (Nat.zero_add _).symm
      omega
    · have h1' : n.val = 1280 + (x 1).val := h1
      omega
  · refine tile_at x1 x2 0 9 9 ![0, 0] slices_S256x256_o0_0_S256x128 36#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 1152 + l.val; omega)
    · have h0' : k.val = 0 + (x 0).val := h0.trans (Nat.zero_add _).symm
      omega
    · have h1' : n.val = 1152 + (x 1).val := h1
      omega
  · refine tile_at x1 x2 0 8 8 ![0, 0] slices_S256x256_o0_0_S256x128 32#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 1024 + l.val; omega)
    · have h0' : k.val = 0 + (x 0).val := h0.trans (Nat.zero_add _).symm
      omega
    · have h1' : n.val = 1024 + (x 1).val := h1
      omega
  · refine tile_at x1 x2 0 7 7 ![0, 0] slices_S256x256_o0_0_S256x128 28#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 896 + l.val; omega)
    · have h0' : k.val = 0 + (x 0).val := h0.trans (Nat.zero_add _).symm
      omega
    · have h1' : n.val = 896 + (x 1).val := h1
      omega
  · refine tile_at x1 x2 0 6 6 ![0, 0] slices_S256x256_o0_0_S256x128 24#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 768 + l.val; omega)
    · have h0' : k.val = 0 + (x 0).val := h0.trans (Nat.zero_add _).symm
      omega
    · have h1' : n.val = 768 + (x 1).val := h1
      omega
  · refine tile_at x1 x2 0 5 5 ![0, 0] slices_S256x256_o0_0_S256x128 20#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 640 + l.val; omega)
    · have h0' : k.val = 0 + (x 0).val := h0.trans (Nat.zero_add _).symm
      omega
    · have h1' : n.val = 640 + (x 1).val := h1
      omega
  · refine tile_at x1 x2 0 4 4 ![0, 0] slices_S256x256_o0_0_S256x128 16#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 512 + l.val; omega)
    · have h0' : k.val = 0 + (x 0).val := h0.trans (Nat.zero_add _).symm
      omega
    · have h1' : n.val = 512 + (x 1).val := h1
      omega
  · refine tile_at x1 x2 0 3 3 ![0, 0] slices_S256x256_o0_0_S256x128 12#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 384 + l.val; omega)
    · have h0' : k.val = 0 + (x 0).val := h0.trans (Nat.zero_add _).symm
      omega
    · have h1' : n.val = 384 + (x 1).val := h1
      omega
  · refine tile_at x1 x2 0 2 2 ![0, 0] slices_S256x256_o0_0_S256x128 8#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 256 + l.val; omega)
    · have h0' : k.val = 0 + (x 0).val := h0.trans (Nat.zero_add _).symm
      omega
    · have h1' : n.val = 256 + (x 1).val := h1
      omega
  · refine tile_at x1 x2 0 1 1 ![0, 0] slices_S256x256_o0_0_S256x128 4#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 128 + l.val; omega)
    · have h0' : k.val = 0 + (x 0).val := h0.trans (Nat.zero_add _).symm
      omega
    · have h1' : n.val = 128 + (x 1).val := h1
      omega
  · refine tile_at x1 x2 0 0 0 ![0, 0] slices_S256x256_o0_0_S256x128 0#32 _ _ x rfl rfl rfl ?_ ?_ k n g ?_ ?_ hg
    · intro i k l e; exact ld_at _ _ _ _ _ _ _ (by show k.val = 0 + i.val; omega) (Nat.zero_add l.val).symm
    · intro i l k n e e'; exact ld_at _ _ _ _ _ _ _ (by show k.val = 0 + i.val; omega) (by show n.val = 0 + l.val; omega)
    · have h0' : k.val = 0 + (x 0).val := h0.trans (Nat.zero_add _).symm
      omega
    · have h1' : n.val = 0 + (x 1).val := h1.trans (Nat.zero_add _).symm
      omega

end Cert.DgradIdeal.Value

end
-- ==== Proof.DgradValue.lean ====
module

public import proofs.«01_k».proof.Proof.DgradTile

@[expose] public section

set_option maxRecDepth 16384

noncomputable section

namespace Cert.DgradIdeal.Value

open Cert.DgradIdeal Cert.DgradIdeal.Gen Idealize.ShloMosaic Idealize.ShloMosaic.TcCoe Idealize.SL.Sem Cert.Scale
open Idealize.ShloMosaic.Pipeline (Dat)

variable (m : (ℓ : Loc nD τ sig) → Buf (Elt Ideal) ℓ)

/-- The row dequantised dy, as the program's argument. -/
abbrev DR (c : Dev nD) : FVec Ideal S6144x4608 .bf16 := m ((c : Thread nD τ).loc main_arg0)
/-- The w codes, as the program's argument. -/
abbrev WC (c : Dev nD) : FVec Ideal S12288x4608 .fp8e4m3 := m ((c : Thread nD τ).loc main_arg1)
/-- The w scale bytes, as the program's argument. -/
abbrev WS (c : Dev nD) : IVec S12288x144 8 := m ((c : Thread nD τ).loc main_arg2)

/-- Entry `(k, n)` of the dequantised w: the code times the number of its scale byte. -/
def wd (W : FVec Ideal S12288x4608 .fp8e4m3) (S : IVec S12288x144 8) (k : Fin 12288) (n : Fin 4608) : EReal :=
  W (ix2 k n) * pow2 (S (ix2 k ⟨n.val / 32, by omega⟩))

/-- The windows' index maps in the point's number. -/
theorem idx : ∀ t : Fin cfg0.N, win0_0.index t = ![t.val % 6, 0] ∧ win0_1.index t = ![t.val / 6, 0]
    ∧ win0_2.index t = ![t.val / 6, 0] ∧ win0_3.index t = ![t.val % 6, t.val / 6] :=
  (by decide +kernel : ∀ t : Fin grid0.N, _)

/-- The block of dy at point `t`: rows `1024 (t % 6) + …`, all columns. -/
theorem dr_blk (c : Dev nD) (t : Fin cfg0.N) (r : Fin 1024) (n : Fin 4608) (q : Fin 6144) (hq : q.val = t.val % 6 * 1024 + r.val) :
    (show FVec Ideal S1024x4608 .bf16 from iblk m c 0 t) (ix2 r n) = DR m c (ix2 q n) := by
  blk_point [iblk, V, idx t]

/-- The block of codes at point `t`: rows `512 (t / 6) + …`, all columns. -/
theorem codes_blk (c : Dev nD) (t : Fin cfg0.N) (l : Fin 512) (n : Fin 4608) (k : Fin 12288) (hk : k.val = t.val / 6 * 512 + l.val) :
    (show FVec Ideal S512x4608 .fp8e4m3 from iblk m c 1 t) (ix2 l n) = WC m c (ix2 k n) := by
  blk_point [iblk, V, idx t]

/-- The block of scale bytes at point `t`: rows `512 (t / 6) + …`, all columns. -/
theorem scales_blk (c : Dev nD) (t : Fin cfg0.N) (l : Fin 512) (g : Fin 144) (k : Fin 12288) (hk : k.val = t.val / 6 * 512 + l.val) :
    (show IVec S512x144 8 from iblk m c 2 t) (ix2 l g) = WS m c (ix2 k g) := by
  blk_point [iblk, V, idx t]

/-- Where the scratch is filled the output block is the product of the dy block and what was filled in. -/
theorem out_A (c : Dev nD) (i : grid0.Coords) (arg2 : Memref sig .tc .vmem S1024x4608 .bf16) (harg2 : arg2.IsWhole) (arg3 : Memref sig .tc .vmem S512x4608 .fp8e4m3) (harg3 : arg3.IsWhole) (arg4 : Memref sig .tc .vmem S512x144 .i8) (harg4 : arg4.IsWhole) (arg5 : Memref sig .tc .vmem S1024x512 .bf16) (harg5 : arg5.IsWhole) (arg6 : Memref sig .tc .vmem S512x4608 .bf16) (harg6 : arg6.IsWhole) (hc0 : cond0_0 i)
    (x0 : Vec Ideal S1024x4608 .bf16) (x1 : Vec Ideal S512x4608 .fp8e4m3) (x2 : Vec Ideal S512x144 .i8) :
    out0_A_3 (F := Ideal) c i arg2 harg2 arg3 harg3 arg4 harg4 arg5 harg5 arg6 harg6 hc0 x0 x1 x2
      = k0_pay2 (F := Ideal) x0 (sout0_A_0 (F := Ideal) c i arg2 harg2 arg3 harg3 arg4 harg4 arg5 harg5 arg6 harg6 hc0 x0 x1 x2) := by
  frame_out
  refine congrArg (fun s => k0_pay2 (F := Ideal) x0 s) ?_
  rw [View.readCov_eq_canon']
  exact View.ld_unit_lit' (S := S512x4608) _ _ (by decide)

/-- Elsewhere the output block is the product of the dy block and the scratch as it stood. -/
theorem out_B (c : Dev nD) (i : grid0.Coords) (arg2 : Memref sig .tc .vmem S1024x4608 .bf16) (harg2 : arg2.IsWhole) (arg3 : Memref sig .tc .vmem S512x4608 .fp8e4m3) (harg3 : arg3.IsWhole) (arg4 : Memref sig .tc .vmem S512x144 .i8) (harg4 : arg4.IsWhole) (arg5 : Memref sig .tc .vmem S1024x512 .bf16) (harg5 : arg5.IsWhole) (arg6 : Memref sig .tc .vmem S512x4608 .bf16) (harg6 : arg6.IsWhole) (hc0 : ¬cond0_0 i)
    (x0 : Vec Ideal S1024x4608 .bf16) (x1 : Vec Ideal S512x4608 .fp8e4m3) (x2 : Vec Ideal S512x144 .i8) (xs0 : Vec Ideal S512x4608 .bf16) :
    out0_B_3 (F := Ideal) c i arg2 harg2 arg3 harg3 arg4 harg4 arg5 harg5 arg6 harg6 hc0 x0 x1 x2 xs0 = k0_pay2 (F := Ideal) x0 xs0 := by
  frame_out

/-- The product's entry: the sum over the 4608 columns. -/
theorem pay2_apply (d : FVec Ideal S1024x4608 .bf16) (s : FVec Ideal S512x4608 .bf16) (r : Fin 1024) (l : Fin 512) :
    k0_pay2 (F := Ideal) d s (ix2 r l) = ∑ n : Fin 4608, d (ix2 r n) * s (ix2 l n) := by
  pointwise [k0_pay2]

/-- The scratch after every point: the dequantised w of the point's 512 rows. It is filled at the first of six points
    and kept at the other five, whose rows are the same. -/
theorem scratch_inv (c : Dev nD) : ∀ (p : ℕ) (hp : p < cfg0.N) (l : Fin 512) (n : Fin 4608) (k : Fin 12288),
    k.val = p / 6 * 512 + l.val →
    (show FVec Ideal S512x4608 .bf16 from (outsAt0 m c p hp).2) (ix2 l n) = wd (WC m c) (WS m c) k n := by
  intro p
  induction p using Nat.strong_induction_on with
  | _ p ih =>
    intro hp l n k hk
    by_cases h : p % 6 = 0
    · rw [outsAt0_A m c ⟨p, hp⟩ h]
      dsimp only
      rw [scratch_A (g := ⟨n.val / 32, by omega⟩) (hg := rfl)]
      exact congrArg₂ (· * ·) (codes_blk m c ⟨p, hp⟩ l n k hk) (congrArg pow2 (scales_blk m c ⟨p, hp⟩ l _ k hk))
    · rw [outsAt0_B m c ⟨p, hp⟩ h]
      dsimp only
      unfold sout0_B_0
      exact ih (p - 1) (by omega) _ l n k (by omega)

/-- The output block after every point. -/
theorem out_at (c : Dev nD) (t : Fin cfg0.N) (r : Fin 1024) (l : Fin 512) (q : Fin 6144) (k : Fin 12288)
    (hq : q.val = t.val % 6 * 1024 + r.val) (hk : k.val = t.val / 6 * 512 + l.val) :
    (show FVec Ideal S1024x512 .bf16 from (outsAt0 m c t.val t.isLt).1) (ix2 r l)
      = ∑ n : Fin 4608, DR m c (ix2 q n) * wd (WC m c) (WS m c) k n := by
  by_cases h : t.val % 6 = 0
  · have hs := fun n => scratch_inv m c t.val t.isLt l n k hk
    rw [outsAt0_A m c t h] at hs ⊢
    dsimp only at hs ⊢
    rw [out_A]
    refine (pay2_apply _ _ r l).trans (Finset.sum_congr rfl fun n _ => ?_)
    exact congrArg₂ (· * ·) (dr_blk m c t r n q hq) (hs n)
  · have hs := fun n => scratch_inv m c (t.val - 1) (Nat.lt_of_le_of_lt (Nat.sub_le _ _) t.isLt) l n k (by omega)
    rw [outsAt0_B m c t h]
    dsimp only
    rw [out_B]
    refine (pay2_apply _ _ r l).trans (Finset.sum_congr rfl fun n _ => ?_)
    exact congrArg₂ (· * ·) (dr_blk m c t r n q hq) (hs n)

/-- The result of the kernel: entry `(t, k)` is the sum over all 4608 columns of the dequantised dy times the
    dequantised w. -/
def DX (D : FVec Ideal S6144x4608 .bf16) (W : FVec Ideal S12288x4608 .fp8e4m3) (S : IVec S12288x144 8) :
    FVec Ideal S6144x12288 .bf16 :=
  fun i => ∑ n : Fin 4608, D (ix2 (i 0) n) * wd W S (i 1) n

/-- The result array after the run. -/
theorem final (c : Dev nD) : (dats m 0 c).arrAt 3 cfg0.N = DX (DR m c) (WC m c) (WS m c) := by
  refine (dats m 0 c).arrAt_eq_of_covers 3 _ (by decide +kernel) fun t _ y => ?_
  blk_simp
  rw [after0_3]
  idx_vars y
  refine (out_at m c t y0 y1 _ _ ?_ ?_)
  · blk_simp [idx t]
  · blk_simp [idx t]

end Cert.DgradIdeal.Value

end
-- ==== Proof.DgradRefValue.lean ====
module

public import proofs.«01_k».proof.Proof.Scale
public import proofs.«01_k».proof.Proof.Gen.DgradRefIdeal.Value

@[expose] public section

set_option maxRecDepth 16384

noncomputable section

namespace Cert.DgradRefIdeal.Value

open Cert.DgradRefIdeal Cert.DgradRefIdeal.Gen Idealize.ShloMosaic Idealize.ShloMosaic.TcCoe Idealize.SL.Sem Cert.Scale
open Idealize.ShloMosaic.Pipeline (Dat)

variable (m : (ℓ : Loc nD τ sig) → Buf (Elt Ideal) ℓ)

/-- The reference's entry `(t, k)`: the sum over the columns of dy times code times number of its scale byte. -/
theorem pay1_apply (W : FVec Ideal S12288x4608 .fp8e4m3) (S : IVec S12288x144 8) (D : FVec Ideal S6144x4608 .bf16)
    (t : Fin 6144) (k : Fin 12288) :
    k0_pay1 (F := Ideal) W S D (ix2 t k)
      = ∑ n : Fin 4608, D (ix2 t n) * (W (ix2 k n) * pow2 (S (ix2 k ⟨n.val / 32, by omega⟩))) := by
  pointwise [k0_pay1]
  refine Finset.sum_congr rfl fun n _ => ?_
  have h := refPow2_term (S (ix2 k ⟨n.val / 32, by omega⟩)) (D (ix2 t n) * W (ix2 k n)) 1
  rw [mul_one, mul_one, mul_assoc, mul_assoc] at h
  exact h

/-- The reference's windows all sit at the origin. -/
theorem idx : ∀ t : Fin cfg0.N, win0_0.index t = ![0, 0] ∧ win0_1.index t = ![0, 0]
    ∧ win0_2.index t = ![0, 0] ∧ win0_3.index t = ![0, 0] :=
  (by decide +kernel : ∀ t : Fin grid0.N, _)

/-- The reference's result array after its run. -/
theorem final (c : Dev nD) : (dats m 0 c).arrAt 3 cfg0.N
    = k0_pay1 (F := Ideal) (m ((c : Thread nD τ).loc main_arg1)) (m ((c : Thread nD τ).loc main_arg2))
        (m ((c : Thread nD τ).loc main_arg0)) := by
  refine (dats m 0 c).arrAt_eq_of_after_last 3 t0_0 (by decide +kernel) _ fun j => ?_
  blk_simp
  rw [after0_3]
  frame_out
  blk_point [iblk, V, idx t0_0]

end Cert.DgradRefIdeal.Value

end
-- ==== Proof.DgradClaim.lean ====
module

public import proofs.«01_k».proof.Defs
public import proofs.«01_k».proof.Proof.DgradValue
public import proofs.«01_k».proof.Proof.DgradRefValue

@[expose] public section

set_option maxRecDepth 16384

noncomputable section

namespace Cert.DgradClaim

open Idealize.ShloMosaic Idealize.ShloMosaic.TcCoe Idealize.SL.Sem Cert.Scale

/-- The kernel's sum is the reference's. -/
theorem bridge (D : FVec Ideal Cert.DgradIdeal.S6144x4608 .bf16) (W : FVec Ideal Cert.DgradIdeal.S12288x4608 .fp8e4m3)
    (S : IVec Cert.DgradIdeal.S12288x144 8) :
    Cert.DgradIdeal.Value.DX D W S = Cert.DgradRefIdeal.Gen.k0_pay1 (F := Ideal) W S D := by
  funext i
  idx_vars i
  exact (Cert.DgradRefIdeal.Value.pay1_apply W S D i0 i1).symm

/-- The input gradient kernel and its reference end with equal results over the extended reals. -/
theorem algebraic : Cert.algebraic_DgradIdeal_DgradRefIdeal (hDgradIdeal := Cert.DgradIdeal.Gen.facts)
    (hDgradRefIdeal := Cert.DgradRefIdeal.Gen.facts) := by
  intro m g m' g' _ hag
  refine ⟨fun c => Cert.DgradIdeal.Value.DX (Cert.DgradIdeal.Value.DR m c) (Cert.DgradIdeal.Value.WC m c) (Cert.DgradIdeal.Value.WS m c), ?_, ?_⟩
  · refine (θ_run _ _ _).mono (fun r h c => ?_) (Cert.DgradIdeal.Value.run_blocks m g)
    obtain ⟨h0, h1, h2, h3⟩ := h c
    exact ⟨h0.trans (Cert.DgradIdeal.Value.final m c), h1, h2, h3⟩
  · refine (θ_run _ _ _).mono (fun r h c => ?_) (Cert.DgradRefIdeal.Value.run_blocks m' g')
    obtain ⟨h0, h1, h2, h3⟩ := h c
    obtain ⟨a0, a1, a2⟩ := hag c
    refine ⟨h0.trans ((Cert.DgradRefIdeal.Value.final m' c).trans ?_), h1, h2, h3⟩
    rw [a0, a1, a2]
    exact (bridge _ _ _).symm

end Cert.DgradClaim

end
-- ==== Proof.QuantFrame.lean ====
/- The quantise call at machine floats: it terminates and leaves its argument as it was. What it leaves in its results
   is not said here. -/
module

public import proofs.«01_k».proof.Proof.Gen.Quant.Launch
public import proofs.«01_k».proof.Proof.Gen.Quant.Skeleton
public import proofs.«01_k».proof.Proof.Gen.Quant.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.QuantFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Quant Cert.Quant.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations before the region allocate nothing. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The kernel body -/

set_option maxHeartbeats 4000000 in
/-- The body, run from any contents of its outputs and its scratch buffer, reads its input and leaves it in place. -/
theorem kernelRun (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole) (x0 : Vec F S256x4608 .bf16) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_quantise_dy i arg1 harg1 arg2 harg2 arg3 harg3 arg4 harg4 arg5 harg5 arg6 harg6 arg7 harg7 arg8 harg8) K := by
  simp only [cc0_quantise_dy_eq_skeleton]; unfold cc0_quantise_dy_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, Hk⟩
  obtain rfl := harg1.eq_unread hf0
  sl_exec
  sl_step
  iapply Hk
  isplitl [H0]
  · iexists _; isplitr; · ipureintro; exact harg1.read_unread _
    iexact H0
  isplitl [H1]
  · iexists _; iexists _; isplitr
    swap; · iexact H1
    ipureintro; rfl
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  iexists _; iexists _; isplitr
  swap; · iexact HS0
  ipureintro; rfl

/-- Each window's current staging memref at point `t`, spelled as the pipeline passes it (`bodyAt0`), and its wholeness. -/
abbrev ms0_0 (t : Fin cfg0.N) : Memref sig .tc .vmem S256x4608 .bf16 := win0_0.stage (cfg0.slots t 0)
/-- Window 0's staging memref is whole. -/
abbrev hs0_0 (t : Fin cfg0.N) : (ms0_0 t).IsWhole := hstage0_0 ((cfg0.slots t 0).cast nbuf0_0)
/-- Window 1's current staging memref at point `t`. -/
abbrev ms0_1 (t : Fin cfg0.N) : Memref sig .tc .vmem S256x4608 .fp8e4m3 := win0_1.stage (cfg0.slots t 1)
/-- Window 1's staging memref is whole. -/
abbrev hs0_1 (t : Fin cfg0.N) : (ms0_1 t).IsWhole := hstage0_1 ((cfg0.slots t 1).cast nbuf0_1)
/-- Window 2's current staging memref at point `t`. -/
abbrev ms0_2 (t : Fin cfg0.N) : Memref sig .tc .vmem S256x144 .i8 := win0_2.stage (cfg0.slots t 2)
/-- Window 2's staging memref is whole. -/
abbrev hs0_2 (t : Fin cfg0.N) : (ms0_2 t).IsWhole := hstage0_2 ((cfg0.slots t 2).cast nbuf0_2)
/-- Window 3's current staging memref at point `t`. -/
abbrev ms0_3 (t : Fin cfg0.N) : Memref sig .tc .vmem S256x4608 .fp8e4m3 := win0_3.stage (cfg0.slots t 3)
/-- Window 3's staging memref is whole. -/
abbrev hs0_3 (t : Fin cfg0.N) : (ms0_3 t).IsWhole := hstage0_3 ((cfg0.slots t 3).cast nbuf0_3)
/-- Window 4's current staging memref at point `t`. -/
abbrev ms0_4 (t : Fin cfg0.N) : Memref sig .tc .vmem S1x8x4608 .i8 := win0_4.stage (cfg0.slots t 4)
/-- Window 4's staging memref is whole. -/
abbrev hs0_4 (t : Fin cfg0.N) : (ms0_4 t).IsWhole := hstage0_4 ((cfg0.slots t 4).cast nbuf0_4)
/-- Window 5's current staging memref at point `t`. -/
abbrev ms0_5 (t : Fin cfg0.N) : Memref sig .tc .vmem S256x4608 .bf16 := win0_5.stage (cfg0.slots t 5)
/-- Window 5's staging memref is whole. -/
abbrev hs0_5 (t : Fin cfg0.N) : (ms0_5 t).IsWhole := hstage0_5 ((cfg0.slots t 5).cast nbuf0_5)
/-- Window 6's current staging memref at point `t`. -/
abbrev ms0_6 (t : Fin cfg0.N) : Memref sig .tc .vmem S256x4608 .bf16 := win0_6.stage (cfg0.slots t 6)
/-- Window 6's staging memref is whole. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The frame: the outputs' contents are forgotten -/

/-- The windows whose contents are not named: the outputs. -/
def fgt (w : Fin cfg0.W) : Bool := match w with
  | ⟨0, _⟩ => false
  | ⟨1, _⟩ => true
  | ⟨2, _⟩ => true
  | ⟨3, _⟩ => true
  | ⟨4, _⟩ => true
  | ⟨5, _⟩ => true
  | ⟨6, _⟩ => true

/-- The arrays as the region finds them; the input's block stays in place; the outputs are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Dat.unnamed ⟨1, h⟩ t
    | ⟨2, h⟩ => Dat.unnamed ⟨2, h⟩ t
    | ⟨3, h⟩ => Dat.unnamed ⟨3, h⟩ t
    | ⟨4, h⟩ => Dat.unnamed ⟨4, h⟩ t
    | ⟨5, h⟩ => Dat.unnamed ⟨5, h⟩ t
    | ⟨6, h⟩ => Dat.unnamed ⟨6, h⟩ t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- The body leaves the input's block as it is. -/
theorem after0_0 (c : Dev nD) (t : Fin cfg0.N) : (dats m 0 c).after 0 t = iblk m c 0 t := by dsimp only [dats]

/-- The input's staging buffer holds its block at every point. -/
theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ X, owns (c : Thread nD τ) (ms0_1 t) fullShare X)
    ∗ (∃ X, owns (c : Thread nD τ) (ms0_2 t) fullShare X)
    ∗ (∃ X, owns (c : Thread nD τ) (ms0_3 t) fullShare X)
    ∗ (∃ X, owns (c : Thread nD τ) (ms0_4 t) fullShare X)
    ∗ (∃ X, owns (c : Thread nD τ) (ms0_5 t) fullShare X)
    ∗ (∃ X, owns (c : Thread nD τ) (ms0_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ X, owns (c : Thread nD τ) (ms0_1 t) fullShare X)
    ∗ (∃ X, owns (c : Thread nD τ) (ms0_2 t) fullShare X)
    ∗ (∃ X, owns (c : Thread nD τ) (ms0_3 t) fullShare X)
    ∗ (∃ X, owns (c : Thread nD τ) (ms0_4 t) fullShare X)
    ∗ (∃ X, owns (c : Thread nD τ) (ms0_5 t) fullShare X)
    ∗ (∃ X, owns (c : Thread nD τ) (ms0_6 t) fullShare X))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0]
  rw [show (dats m 0 c).Φ t.castSucc = Pipeline.ΦA spec0 c from rfl, PhiA0_eq]
  iintro ⟨⟨HS0, Hg⟩, Ho, ⟨%d0, H0⟩, H1, H2, H3, H4, H5, H6⟩
  iapply (kernelRun c (grid0.coords t) _ _ _ _ _ _ _ _ _ _ _ _ _ _ _ _ (iblk m c 0 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point, the outputs forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: what the library says of the arrays, and every semaphore counter at zero. -/
theorem run_main_quiescent : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the call terminates, its argument ends unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0
    (Pipeline.mem_restRefs_of main_arg0 (by decide) (by decide))).trans (V_main_arg0 m c), h.2⟩) (run_main_quiescent m ρ)

end Cert.QuantFrame

end
-- ==== Proof.QuantIdealRun.lean ====
/- The run of the quantise kernel at any values: what each of its buffers holds at the end, as the pieces its stores wrote. -/
module

public import proofs.«01_k».proof.Proof.Gen.QuantIdeal.Launch
public import proofs.«01_k».proof.Proof.Gen.QuantIdeal.Skeleton
public import proofs.«01_k».proof.Proof.Gen.QuantIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.QuantIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QuantIdeal Cert.QuantIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations before the region allocate nothing. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The kernel body -/

set_option maxHeartbeats 4000000 in
/-- The body's run, its column-scale window and its scratch buffer at given contents, its other outputs at any: the
    pieces each buffer ends with are the witness the run finds. The row outputs read the whole scratch buffer, of which
    only part is written; so their pieces depend on what it held before. -/
noncomputable def kernelRun (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) :
    Σ' (L1 : List (View.Piece (Elt F) S256x4608 .fp8e4m3)), Σ' (L2 : List (View.Piece (Elt F) S256x144 .i8)), Σ' (L3 : List (View.Piece (Elt F) S256x4608 .fp8e4m3)), Σ' (L4 : List (View.Piece (Elt F) S1x8x4608 .i8)), Σ' (L5 : List (View.Piece (Elt F) S256x4608 .bf16)), Σ' (L6 : List (View.Piece (Elt F) S256x4608 .bf16)), { LT0 : List (View.Piece (Elt F) S256x256 .f32) //
    ∀ (E : Set ℕ) (K : PUnit → sProp 𝕄),
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (arg5.view.loc (c : Thread nD τ) ↦[arg5.view.set]{fullShare} f5) ∗ (∃ d, owns (c : Thread nD τ) arg6 fullShare d) ∗ (∃ d, owns (c : Thread nD τ) arg7 fullShare d) ∗ (arg8.view.loc (c : Thread nD τ) ↦[arg8.view.set]{fullShare} f8)
        ∗ (iprop(owns (c : Thread nD τ) arg1 fullShare x0 ∗ (∃ f, (arg2.view.loc (c : Thread nD τ) ↦[arg2.view.set]{fullShare} (arg2.view.writes (Elt F) f L1))) ∗ (∃ f, (arg3.view.loc (c : Thread nD τ) ↦[arg3.view.set]{fullShare} (arg3.view.writes (Elt F) f L2))) ∗ (∃ f, (arg4.view.loc (c : Thread nD τ) ↦[arg4.view.set]{fullShare} (arg4.view.writes (Elt F) f L3))) ∗ (arg5.view.loc (c : Thread nD τ) ↦[arg5.view.set]{fullShare} (arg5.view.writes (Elt F) f5 L4)) ∗ (∃ f, (arg6.view.loc (c : Thread nD τ) ↦[arg6.view.set]{fullShare} (arg6.view.writes (Elt F) f L5))) ∗ (∃ f, (arg7.view.loc (c : Thread nD τ) ↦[arg7.view.set]{fullShare} (arg7.view.writes (Elt F) f L6))) ∗ (arg8.view.loc (c : Thread nD τ) ↦[arg8.view.set]{fullShare} (arg8.view.writes (Elt F) f8 LT0))) -∗ K ⟨⟩))
      ⊢ wp frame (wpE (defs₀ (F := F)) Variants.none c none) E (cc0_quantise_dy i arg1 harg1 arg2 harg2 arg3 harg3 arg4 harg4 arg5 harg5 arg6 harg6 arg7 harg7 arg8 harg8) K } := by
  refine ⟨?_, ?_, ?_, ?_, ?_, ?_, ?_, fun E K => ?run⟩
  case run =>
    simp only [cc0_quantise_dy_eq_skeleton]; unfold cc0_quantise_dy_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
    unfold owns
    iintro ⟨⟨%f0, %hf0, H0⟩, ⟨%d1, %f1, -, H1⟩, ⟨%d2, %f2, -, H2⟩, ⟨%d3, %f3, -, H3⟩, H4, ⟨%d5, %f6, -, H5⟩, ⟨%d6, %f7, -, H6⟩, HS0, Hk⟩
    obtain rfl := harg1.eq_unread hf0
    sl_exec
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [H4]; · iexact H4
    isplitl [H5]; · iexists _; iexact H5
    isplitl [H6]; · iexists _; iexact H6
    iexact HS0

/-- One staging buffer of output 1, through which its contents are stated. -/
abbrev VO1 : View sig .tc .vmem S256x4608 .fp8e4m3 := (Memref.whole cc0_stg1_0 : Memref sig .tc .vmem S256x4608 .fp8e4m3).view

/-- The pieces of output 1 cover its block. -/
theorem cover1 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) (y : S256x4608.Idx) :
    ∃ pc ∈ (kernelRun c i arg1 harg1 arg2 harg2 arg3 harg3 arg4 harg4 arg5 harg5 arg6 harg6 arg7 harg7 arg8 harg8 x0 f5 f8).1, y ∈ pc.1.set :=
  View.cover_of_tiledL (kernelRun c i arg1 harg1 arg2 harg2 arg3 harg3 arg4 harg4 arg5 harg5 arg6 harg6 arg7 harg7 arg8 harg8 x0 f5 f8).1 S256x128.size (by sl_kernel_rfl) y

/-- What the run leaves in output 1's staging buffer: its pieces read back over junk. -/
def out1 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) : Vec F S256x4608 .fp8e4m3 :=
  VO1.read (Elt F) (VO1.writes (Elt F) VO1.junk (kernelRun c i arg1 harg1 arg2 harg2 arg3 harg3 arg4 harg4 arg5 harg5 arg6 harg6 arg7 harg7 arg8 harg8 x0 f5 f8).1)

/-- One staging buffer of output 2, through which its contents are stated. -/
abbrev VO2 : View sig .tc .vmem S256x144 .i8 := (Memref.whole cc0_stg2_0 : Memref sig .tc .vmem S256x144 .i8).view

/-- The pieces of output 2 cover its block. -/
theorem cover2 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) (y : S256x144.Idx) :
    ∃ pc ∈ (kernelRun c i arg1 harg1 arg2 harg2 arg3 harg3 arg4 harg4 arg5 harg5 arg6 harg6 arg7 harg7 arg8 harg8 x0 f5 f8).2.1, y ∈ pc.1.set :=
  View.cover_of_tiledL (kernelRun c i arg1 harg1 arg2 harg2 arg3 harg3 arg4 harg4 arg5 harg5 arg6 harg6 arg7 harg7 arg8 harg8 x0 f5 f8).2.1 S256x144.size (by sl_kernel_rfl) y

/-- What the run leaves in output 2's staging buffer: its pieces read back over junk. -/
def out2 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) : Vec F S256x144 .i8 :=
  VO2.read (Elt F) (VO2.writes (Elt F) VO2.junk (kernelRun c i arg1 harg1 arg2 harg2 arg3 harg3 arg4 harg4 arg5 harg5 arg6 harg6 arg7 harg7 arg8 harg8 x0 f5 f8).2.1)

/-- One staging buffer of output 3, through which its contents are stated. -/
abbrev VO3 : View sig .tc .vmem S256x4608 .fp8e4m3 := (Memref.whole cc0_stg3_0 : Memref sig .tc .vmem S256x4608 .fp8e4m3).view

/-- The pieces of output 3 cover its block. -/
theorem cover3 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) (y : S256x4608.Idx) :
    ∃ pc ∈ (kernelRun c i arg1 harg1 arg2 harg2 arg3 harg3 arg4 harg4 arg5 harg5 arg6 harg6 arg7 harg7 arg8 harg8 x0 f5 f8).2.2.1, y ∈ pc.1.set :=
  View.cover_of_tiledL (kernelRun c i arg1 harg1 arg2 harg2 arg3 harg3 arg4 harg4 arg5 harg5 arg6 harg6 arg7 harg7 arg8 harg8 x0 f5 f8).2.2.1 S32x4608.size (by sl_kernel_rfl) y

/-- What the run leaves in output 3's staging buffer: its pieces read back over junk. -/
def out3 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) : Vec F S256x4608 .fp8e4m3 :=
  VO3.read (Elt F) (VO3.writes (Elt F) VO3.junk (kernelRun c i arg1 harg1 arg2 harg2 arg3 harg3 arg4 harg4 arg5 harg5 arg6 harg6 arg7 harg7 arg8 harg8 x0 f5 f8).2.2.1)

/-- One staging buffer of output 4, through which its contents are stated. -/
abbrev VO4 : View sig .tc .vmem S1x8x4608 .i8 := (Memref.whole cc0_stg4_0 : Memref sig .tc .vmem S1x8x4608 .i8).view

/-- The pieces of output 4 cover its block. -/
theorem cover4 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) (y : S1x8x4608.Idx) :
    ∃ pc ∈ (kernelRun c i arg1 harg1 arg2 harg2 arg3 harg3 arg4 harg4 arg5 harg5 arg6 harg6 arg7 harg7 arg8 harg8 x0 f5 f8).2.2.2.1, y ∈ pc.1.set :=
  View.cover_of_tiledL (kernelRun c i arg1 harg1 arg2 harg2 arg3 harg3 arg4 harg4 arg5 harg5 arg6 harg6 arg7 harg7 arg8 harg8 x0 f5 f8).2.2.2.1 S1x4x4608.size (by sl_kernel_rfl) y

/-- What the run leaves in output 4's staging buffer: its pieces read back over junk. -/
def out4 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) : Vec F S1x8x4608 .i8 :=
  VO4.read (Elt F) (VO4.writes (Elt F) VO4.junk (kernelRun c i arg1 harg1 arg2 harg2 arg3 harg3 arg4 harg4 arg5 harg5 arg6 harg6 arg7 harg7 arg8 harg8 x0 f5 f8).2.2.2.1)

/-- One staging buffer of output 5, through which its contents are stated. -/
abbrev VO5 : View sig .tc .vmem S256x4608 .bf16 := (Memref.whole cc0_stg5_0 : Memref sig .tc .vmem S256x4608 .bf16).view

/-- The pieces of output 5 cover its block. -/
theorem cover5 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) (y : S256x4608.Idx) :
    ∃ pc ∈ (kernelRun c i arg1 harg1 arg2 harg2 arg3 harg3 arg4 harg4 arg5 harg5 arg6 harg6 arg7 harg7 arg8 harg8 x0 f5 f8).2.2.2.2.1, y ∈ pc.1.set :=
  View.cover_of_tiledL (kernelRun c i arg1 harg1 arg2 harg2 arg3 harg3 arg4 harg4 arg5 harg5 arg6 harg6 arg7 harg7 arg8 harg8 x0 f5 f8).2.2.2.2.1 S256x128.size (by sl_kernel_rfl) y

/-- What the run leaves in output 5's staging buffer: its pieces read back over junk. -/
def out5 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) : Vec F S256x4608 .bf16 :=
  VO5.read (Elt F) (VO5.writes (Elt F) VO5.junk (kernelRun c i arg1 harg1 arg2 harg2 arg3 harg3 arg4 harg4 arg5 harg5 arg6 harg6 arg7 harg7 arg8 harg8 x0 f5 f8).2.2.2.2.1)

/-- One staging buffer of output 6, through which its contents are stated. -/
abbrev VO6 : View sig .tc .vmem S256x4608 .bf16 := (Memref.whole cc0_stg6_0 : Memref sig .tc .vmem S256x4608 .bf16).view

/-- The pieces of output 6 cover its block. -/
theorem cover6 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) (y : S256x4608.Idx) :
    ∃ pc ∈ (kernelRun c i arg1 harg1 arg2 harg2 arg3 harg3 arg4 harg4 arg5 harg5 arg6 harg6 arg7 harg7 arg8 harg8 x0 f5 f8).2.2.2.2.2.1, y ∈ pc.1.set :=
  View.cover_of_tiledL (kernelRun c i arg1 harg1 arg2 harg2 arg3 harg3 arg4 harg4 arg5 harg5 arg6 harg6 arg7 harg7 arg8 harg8 x0 f5 f8).2.2.2.2.2.1 S32x4608.size (by sl_kernel_rfl) y

/-- What the run leaves in output 6's staging buffer: its pieces read back over junk. -/
def out6 (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec F S256x4608 .bf16) (f5 : Buf (Elt F) (arg5.view.loc (c : Thread nD τ))) (f8 : Buf (Elt F) (arg8.view.loc (c : Thread nD τ))) : Vec F S256x4608 .bf16 :=
  VO6.read (Elt F) (VO6.writes (Elt F) VO6.junk (kernelRun c i arg1 harg1 arg2 harg2 arg3 harg3 arg4 harg4 arg5 harg5 arg6 harg6 arg7 harg7 arg8 harg8 x0 f5 f8).2.2.2.2.2.1)

end Cert.QuantIdeal.Hand

end
-- ==== Proof.QuantTile.lean ====
module

public import proofs.«01_k».proof.Proof.QuantIdealRun
public import proofs.«01_k».proof.Proof.Scale
public import Idealize.ShloMosaic.Lib.Pipeline.Value
public import Idealize.ShloMosaic.Lib.Pipeline.ValueKit

@[expose] public section

set_option maxRecDepth 16384

noncomputable section

namespace Cert.QuantIdeal.Hand

open Cert.QuantIdeal Cert.QuantIdeal.Gen Idealize.ShloMosaic Idealize.ShloMosaic.TcCoe Idealize.SL.Sem Cert.Scale

/-- The number of a binary32 word with the given exponent field. -/
def pw (b : BitVec 32) : EReal := Ideal.ofBits .f32 (b <<< 23)

/-- One step of the search for the exponent field. -/
def bit (x : EReal) (be b : BitVec 32) : BitVec 32 :=
  Scalar.select (FloatOps.cmpf (F := Ideal) (φ := .f32) .olt x (pw (be ||| b))) be (be ||| b)

/-- The kernel's search for the exponent field of a number. -/
def field (x : EReal) : BitVec 32 :=
  bit x (bit x (bit x (bit x (bit x (bit x (bit x (bit x 0#32 128#32) 64#32) 32#32) 16#32) 8#32) 4#32) 2#32) 1#32

/-- The scale byte of a block from its scaled magnitude. -/
def byteOf' (x : EReal) : BitVec 32 := Scalar.select (IntOp.cmpi .eq (field x) 0#32) 127#32 (IntOp.addi (field x) 1#32)

/-- The scale byte of a block whose largest magnitude is `a`. -/
def byteOf (a : EReal) : BitVec 32 := byteOf' (a * Ideal.ofBits .f32 0x3B124925#32)

/-- The largest magnitude of 32 numbers. -/
def amx (f : Fin 32 → EReal) : EReal := Finset.univ.fold max ⊥ fun i => FloatOps.absf (F := Ideal) (φ := .bf16) (f i)

/-- A number's code under a scale byte. -/
def codeOf (v : EReal) (b : BitVec 32) : EReal :=
  min (Ideal.ofBits .f32 0x43E00000#32) (max (Ideal.ofBits .f32 0xC3E00000#32) (v * pw (254#32 - b)))

/-- One step of the search on every entry of a vector. -/
def vbit {s : Shape} (v : FVec Ideal s .f32) (be : IVec s 32) (b : BitVec 32) : IVec s 32 :=
  select (cmpf .olt v (bitcastToFloat .f32 (shli (ori be (broadcast s b)) (broadcast s 23#32)))) be (ori be (broadcast s b))

/-- The search on every entry of a vector. -/
def vfield {s : Shape} (v : FVec Ideal s .f32) : IVec s 32 :=
  vbit v (vbit v (vbit v (vbit v (vbit v (vbit v (vbit v (vbit v (broadcast s 0#32) 128#32) 64#32) 32#32) 16#32) 8#32) 4#32) 2#32) 1#32

/-- The scale byte of every entry of a vector. -/
def vbyte {s : Shape} (v : FVec Ideal s .f32) : IVec s 32 :=
  select (cmpi .eq (vfield v) (broadcast s 0#32)) (broadcast s 127#32) (addi (vfield v) (broadcast s 1#32))

/-- A step of the search, at an entry. -/
theorem vbit_apply {s : Shape} (v : FVec Ideal s .f32) (be : IVec s 32) (b : BitVec 32) (i : s.Idx) :
    vbit v be b i = bit (v i) (be i) b := rfl

/-- The search, at an entry. -/
theorem vfield_apply {s : Shape} (v : FVec Ideal s .f32) (i : s.Idx) : vfield v i = field (v i) := by
  unfold vfield field
  simp only [vbit_apply]
  rfl

/-- The scale byte, at an entry. -/
theorem vbyte_apply {s : Shape} (v : FVec Ideal s .f32) (i : s.Idx) : vbyte v i = byteOf' (v i) := by
  unfold byteOf'
  rw [← vfield_apply]
  rfl

/-- The column blocks' scaled magnitudes, of 32 rows. -/
def colX (v : Vec Ideal S32x4608 .bf16) : FVec Ideal S1x4608 .f32 := k0_pay4 (F := Ideal) v
/-- The column scale bytes of 32 rows. -/
def colByte (v : Vec Ideal S32x4608 .bf16) : IVec S1x4608 32 := k0_pay6 (F := Ideal) (k0_pay4 v) (k0_pay5 v)
/-- The column codes of 32 rows. -/
def colCodes (v : Vec Ideal S32x4608 .bf16) : FVec Ideal S32x4608 .fp8e4m3 := k0_pay10 (F := Ideal) (k0_pay9 (k0_pay3 v) (k0_pay4 v) (k0_pay5 v)) (Scalar.ofBits .f32 0xC3E00000#32)
/-- The dequantised column codes of 32 rows. -/
def colDeq (v : Vec Ideal S32x4608 .bf16) : FVec Ideal S32x4608 .bf16 := k0_pay11 (F := Ideal) (k0_pay8 (k0_pay4 v) (k0_pay5 v)) (k0_pay9 (k0_pay3 v) (k0_pay4 v) (k0_pay5 v)) (Scalar.ofBits .f32 0xC3E00000#32)

/-- The bfloat16 word of minus infinity. -/
theorem negInf16 : Ideal.ofBits .bf16 0xFF80#16 = (⊥ : EReal) := by
  show Ideal.ieee 8 7 (0xFF80#16) = ⊥
  unfold Ideal.ieee
  simp

/-- The binary32 word of minus infinity. -/
theorem negInf32 : Ideal.ofBits .f32 0xFF800000#32 = (⊥ : EReal) := by
  show Ideal.ieee 8 23 (0xFF800000#32) = ⊥
  unfold Ideal.ieee
  simp

/-- A column block's scaled magnitude is its largest magnitude times the number nearest 1/448. -/
theorem colX_apply (v : Vec Ideal S32x4608 .bf16) (n : Fin 4608) :
    k0_pay4 (F := Ideal) v (ix2 0 n) = amx (fun i => v (ix2 i n)) * Ideal.ofBits .f32 0x3B124925#32 := by
  pointwise [k0_pay4, k0_pay3]
  rw [negInf16]
  rfl

/-- A column scale byte is that of the column's largest magnitude. -/
theorem colByte_apply (v : Vec Ideal S32x4608 .bf16) (n : Fin 4608) :
    colByte v (ix2 0 n) = byteOf (amx fun i => v (ix2 i n)) := by
  refine Eq.trans ?_ (congrArg byteOf' (colX_apply v n))
  exact (congrFun (show colByte v = vbyte (k0_pay4 (F := Ideal) v) from rfl) _).trans (vbyte_apply _ _)

/-- A column code is the entry's code under its column's byte. -/
theorem colCodes_apply (v : Vec Ideal S32x4608 .bf16) (i : Fin 32) (n : Fin 4608) :
    colCodes v (ix2 i n) = codeOf (v (ix2 i n)) (byteOf (amx fun i => v (ix2 i n))) := by
  rw [← colByte_apply]
  pointwise [colCodes, k0_pay10, k0_pay9, k0_pay3]
  rfl

/-- A dequantised column code is the code times its byte's power of two. -/
theorem colDeq_apply (v : Vec Ideal S32x4608 .bf16) (i : Fin 32) (n : Fin 4608) :
    colDeq v (ix2 i n) = codeOf (v (ix2 i n)) (byteOf (amx fun i => v (ix2 i n))) * pw (byteOf (amx fun i => v (ix2 i n))) := by
  rw [← colByte_apply]
  pointwise [colDeq, k0_pay11, k0_pay10, k0_pay9, k0_pay8, k0_pay3]
  rfl

end Cert.QuantIdeal.Hand

end
-- ==== Proof.QuantOut.lean ====
module

public import proofs.«01_k».proof.Proof.QuantTile
public import proofs.«01_k».proof.Proof.Scale
public import Idealize.ShloMosaic.Lib.Pipeline.Value
public import Idealize.ShloMosaic.Lib.WritesUnit
public import Idealize.ShloMosaic.Lib.Pipeline.ValueKit

@[expose] public section

set_option maxRecDepth 16384

noncomputable section

namespace Cert.QuantIdeal.Hand

open Cert.QuantIdeal Cert.QuantIdeal.Gen Idealize.ShloMosaic Idealize.ShloMosaic.TcCoe Idealize.SL.Sem Cert.Scale

section
variable {sig : RefSig} {κ : Kind} {sp : Space} {s : Shape} {e : EltTy} {NT : ℕ}

/-- Each tile is one of the pieces. -/
theorem mem_tilePieces (tsz : Fin s.rank → ℕ) (off : Fin NT → Fin s.rank → ℕ) (inb : ∀ i a, off i a + tsz a ≤ s.size a)
    (P : Fin NT → (⟨s.rank, tsz⟩ : Shape).Idx → Elt Ideal e) (i : Fin NT) : ∀ (j : ℕ) (hj : j ≤ NT), i.val < j →
    (⟨Rect.unit (off i) tsz (inb i), P i⟩ : View.Piece (Elt Ideal) s e) ∈ View.tilePieces tsz off inb P j hj
  | 0, _, h => absurd h (Nat.not_lt_zero _)
  | j + 1, hj, h => by
    rw [View.tilePieces_succ]
    by_cases hn : i = ⟨j, hj⟩
    · subst hn; exact List.mem_cons_self
    · refine List.mem_cons_of_mem _ (mem_tilePieces tsz off inb P i j _ ?_)
      have : i.val ≠ j := fun h' => hn (Fin.ext h')
      omega

/-- An index in tile `i` alone reads that tile's payload. -/
theorem canon_tiles_at (v : View sig κ sp s e) (f : v.ty.Contents (Elt Ideal)) (tsz : Fin s.rank → ℕ) (off : Fin NT → Fin s.rank → ℕ) (inb : ∀ i a, off i a + tsz a ≤ s.size a)
    (P : Fin NT → (⟨s.rank, tsz⟩ : Shape).Idx → Elt Ideal e) (y : s.Idx) (i : Fin NT) (x : (⟨s.rank, tsz⟩ : Shape).Idx)
    (hx : ∀ a, (y a).val = off i a + (x a).val) (ax : Fin s.rank)
    (hdis : ∀ i' : Fin NT, i' ≠ i → (y ax).val < off i' ax ∨ off i' ax + tsz ax ≤ (y ax).val) :
    View.canon (View.tilePieces tsz off inb P NT le_rfl) y = P i x := by
  refine (View.read_writes_apply_eq_canon v f y _ ⟨_, mem_tilePieces tsz off inb P i NT le_rfl i.isLt, ?_⟩).symm.trans
    (View.read_tilePieces v f tsz off inb P NT le_rfl y i i.isLt x hx ax hdis)
  rw [Rect.mem_set_unit]
  intro a
  have h1 := hx a
  have h2 : (x a).val < tsz a := (x a).isLt
  omega

end

/-- Four rows from row `4 c` lie in the scratch buffer. -/
theorem inbS (c : Fin 36) : ∀ a : Fin 2, (![4 * c.val, 0] : Fin 2 → ℕ) a + (![4, 256] : Fin 2 → ℕ) a ≤ S256x256.size a := by
  intro a
  match a with
  | ⟨0, _⟩ => show 4 * c.val + 4 ≤ 256; omega
  | ⟨1, _⟩ => show 0 + 256 ≤ 256; omega

/-- 128 columns from column `128 c` lie in a tile. -/
theorem inbC (c : Fin 36) : ∀ a : Fin 2, (![0, 128 * c.val] : Fin 2 → ℕ) a + (![256, 128] : Fin 2 → ℕ) a ≤ S256x4608.size a := by
  intro a
  match a with
  | ⟨0, _⟩ => show 0 + 256 ≤ 256; omega
  | ⟨1, _⟩ => show 128 * c.val + 128 ≤ 4608; omega

/-- The half of the 256 columns of powers of two that holds those of columns `128 c …`. -/
theorem slicesC (c : Fin 36) : S256x256.Slices ![0, 128 * (c.val / 32)] S256x128 := by
  refine ⟨rfl, ?_⟩
  intro a
  match a with
  | ⟨0, _⟩ => show 0 + 256 ≤ 256; omega
  | ⟨1, _⟩ => show 128 * (c.val / 32) + 128 ≤ 256; omega

/-- The stores into the scratch buffer, newest first. -/
def scrL (x0 : Vec Ideal S256x4608 .bf16) : List (View.Piece (Elt Ideal) S256x256 .f32) :=
  View.tilePieces (NT := 36) ![4, 256] (fun c => ![4 * c.val, 0]) inbS
    (fun c => k0_pay84 (F := Ideal) (View.ld x0 (Rect.unit ![0, 128 * c.val] ![256, 128] (inbC c)))) 36 le_rfl

/-- Each lane's column to gather from: its number divided by 32, plus the first one, moved up by 128 if negative. -/
def lanes (first : BitVec 32) : IVec S256x128 32 :=
  shapeCast S256x128 (shapeCast S256x128x1
    (select (cmpi .slt (addi (shrui (iota .tc S256x128 32 [1] iota_S256x128_d1_w32) (broadcast S256x128 5#32)) (broadcast S256x128 first)) (broadcast S256x128 0#32))
      (addi (addi (shrui (iota .tc S256x128 32 [1] iota_S256x128_d1_w32) (broadcast S256x128 5#32)) (broadcast S256x128 first)) (broadcast S256x128 128#32))
      (addi (shrui (iota .tc S256x128 32 [1] iota_S256x128_d1_w32) (broadcast S256x128 5#32)) (broadcast S256x128 first)))
    shapeCasts_S256x128_S256x128x1) shapeCasts_S256x128x1_S256x128

/-- A row of powers of two spread over the lanes of 128 columns. -/
def spread (c : Fin 36) (s : FVec Ideal S256x256 .bf16) : FVec Ideal S256x128 .bf16 :=
  truncf .bf16 (dynamicGather 1 (extf .f32 (extractStridedSlice S256x128 ![0, 128 * (c.val / 32)] s (slicesC c)) bitsLt_bf16_f32) (lanes (BitVec.ofNat 32 (4 * (c.val % 32))))) bitsLt_bf16_f32

/-- The row scale bytes from the magnitudes in the scratch buffer. -/
def rowBytes (A : Vec Ideal S256x256 .f32) : IVec S256x256 32 :=
  k0_pay128 (k0_pay124 (F := Ideal) A) (k0_pay125 A) (k0_pay126 A) (k0_pay127 A)
/-- The powers of two the rows are multiplied by, from the scratch buffer. -/
def rowInv (A : Vec Ideal S256x256 .f32) : FVec Ideal S256x256 .bf16 :=
  k0_pay130 (k0_pay124 (F := Ideal) A) (k0_pay125 A) (k0_pay126 A) (k0_pay127 A)
/-- The powers of two the row codes stand for, from the scratch buffer. -/
def rowDec (A : Vec Ideal S256x256 .f32) : FVec Ideal S256x256 .bf16 :=
  k0_pay131 (k0_pay124 (F := Ideal) A) (k0_pay125 A) (k0_pay126 A) (k0_pay127 A)

/-- 128 columns scaled and clipped. -/
def rowQ (c : Fin 36) (A : Vec Ideal S256x256 .f32) (v : Vec Ideal S256x128 .bf16) : FVec Ideal S256x128 .bf16 :=
  minimumf (broadcast S256x128 (Scalar.truncf .bf16 bitsLt_bf16_f32 (Scalar.ofBits (F := Ideal) .f32 0x43E00000#32)))
    (maximumf (broadcast S256x128 (Scalar.truncf .bf16 bitsLt_bf16_f32 (Scalar.ofBits (F := Ideal) .f32 0xC3E00000#32)))
      (mulf (shapeCast S256x128 v shapeCasts_S256x128_S256x128) (spread c (rowInv A))))

/-- The row codes of 128 columns. -/
def rowCodes (c : Fin 36) (A : Vec Ideal S256x256 .f32) (v : Vec Ideal S256x128 .bf16) : FVec Ideal S256x128 .fp8e4m3 :=
  truncf .fp8e4m3 (rowQ c A v) bitsLt_fp8e4m3_bf16

/-- The dequantised row codes of 128 columns. -/
def rowDeq (c : Fin 36) (A : Vec Ideal S256x256 .f32) (v : Vec Ideal S256x128 .bf16) : FVec Ideal S256x128 .bf16 :=
  mulf (extf .bf16 (rowCodes c A v) bitsLt_fp8e4m3_bf16) (spread c (rowDec A))

/-- The stores into the row codes, newest first. -/
def rowCodesL (A : Vec Ideal S256x256 .f32) (x0 : Vec Ideal S256x4608 .bf16) : List (View.Piece (Elt Ideal) S256x4608 .fp8e4m3) :=
  View.tilePieces (NT := 36) ![256, 128] (fun c => ![0, 128 * c.val]) inbC
    (fun c => rowCodes c A (View.ld x0 (Rect.unit ![0, 128 * c.val] ![256, 128] (inbC c)))) 36 le_rfl

/-- The stores into the dequantised row codes, newest first. -/
def rowDeqL (A : Vec Ideal S256x256 .f32) (x0 : Vec Ideal S256x4608 .bf16) : List (View.Piece (Elt Ideal) S256x4608 .bf16) :=
  View.tilePieces (NT := 36) ![256, 128] (fun c => ![0, 128 * c.val]) inbC
    (fun c => rowDeq c A (View.ld x0 (Rect.unit ![0, 128 * c.val] ![256, 128] (inbC c)))) 36 le_rfl

/-- The row codes the body leaves are those of its 36 stores. -/
theorem out1_eq (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (y : S256x4608.Idx) :
    out1 (F := Ideal) c i arg1 harg1 arg2 harg2 arg3 harg3 arg4 harg4 arg5 harg5 arg6 harg6 arg7 harg7 arg8 harg8 x0 f5 f8 y = View.canon
      (rowCodesL (arg8.view.read (Elt Ideal) (arg8.view.writes (Elt Ideal) f8 (scrL x0))) x0) y := by
  frame_out
  rfl

/-- The dequantised row codes the body leaves are those of its 36 stores. -/
theorem out5_eq (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (y : S256x4608.Idx) :
    out5 (F := Ideal) c i arg1 harg1 arg2 harg2 arg3 harg3 arg4 harg4 arg5 harg5 arg6 harg6 arg7 harg7 arg8 harg8 x0 f5 f8 y = View.canon
      (rowDeqL (arg8.view.read (Elt Ideal) (arg8.view.writes (Elt Ideal) f8 (scrL x0))) x0) y := by
  frame_out
  rfl

/-- 32 rows from row `32 g` lie in a tile. -/
theorem inbR (g : Fin 8) : ∀ a : Fin 2, (![32 * g.val, 0] : Fin 2 → ℕ) a + (![32, 4608] : Fin 2 → ℕ) a ≤ S256x4608.size a := by
  intro a
  match a with
  | ⟨0, _⟩ => show 32 * g.val + 32 ≤ 256; omega
  | ⟨1, _⟩ => show 0 + 4608 ≤ 4608; omega

/-- The stores into the column codes, newest first. -/
def colCodesL (x0 : Vec Ideal S256x4608 .bf16) : List (View.Piece (Elt Ideal) S256x4608 .fp8e4m3) :=
  View.tilePieces (NT := 8) ![32, 4608] (fun g => ![32 * g.val, 0]) inbR
    (fun g => colCodes (View.ld x0 (Rect.unit ![32 * g.val, 0] ![32, 4608] (inbR g)))) 8 le_rfl

/-- The stores into the dequantised column codes, newest first. -/
def colDeqL (x0 : Vec Ideal S256x4608 .bf16) : List (View.Piece (Elt Ideal) S256x4608 .bf16) :=
  View.tilePieces (NT := 8) ![32, 4608] (fun g => ![32 * g.val, 0]) inbR
    (fun g => colDeq (View.ld x0 (Rect.unit ![32 * g.val, 0] ![32, 4608] (inbR g)))) 8 le_rfl

/-- The column codes the body leaves are those of its eight stores. -/
theorem out3_eq (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (y : S256x4608.Idx) :
    out3 (F := Ideal) c i arg1 harg1 arg2 harg2 arg3 harg3 arg4 harg4 arg5 harg5 arg6 harg6 arg7 harg7 arg8 harg8 x0 f5 f8 y = View.canon (colCodesL x0) y := by
  frame_out
  rfl

/-- The dequantised column codes the body leaves are those of its eight stores. -/
theorem out6_eq (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (y : S256x4608.Idx) :
    out6 (F := Ideal) c i arg1 harg1 arg2 harg2 arg3 harg3 arg4 harg4 arg5 harg5 arg6 harg6 arg7 harg7 arg8 harg8 x0 f5 f8 y = View.canon (colDeqL x0) y := by
  frame_out
  rfl

/-- The row scale bytes the body leaves are the first 144 columns of those of the scratch buffer, as 8 bits. -/
theorem out2_eq (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (y : S256x144.Idx) :
    out2 (F := Ideal) c i arg1 harg1 arg2 harg2 arg3 harg3 arg4 harg4 arg5 harg5 arg6 harg6 arg7 harg7 arg8 harg8 x0 f5 f8 y = trunci 8 (extractStridedSlice S256x144 ![0, 0] (rowBytes (arg8.view.read (Elt Ideal) (arg8.view.writes (Elt Ideal) f8 (scrL x0)))) slices_S256x256_o0_0_S256x144) natLt_8_32 y := by
  frame_out
  rfl

/-- Any part of an array loaded: the entry at `i` is the array's at the offset plus `i`. -/
theorem ld_at {m n p q : ℕ} {e : EltTy} (X : Vec Ideal ⟨2, ![m, n]⟩ e) (o : Fin 2 → ℕ) (h : ∀ a : Fin 2, o a + ![p, q] a ≤ (⟨2, ![m, n]⟩ : Shape).size a) (i : Fin p) (l : Fin q) (t : Fin m) (k : Fin n)
    (ht : t.val = o 0 + i.val) (hk : k.val = o 1 + l.val) :
    View.ld X (Rect.unit (s := ⟨2, ![m, n]⟩) o ![p, q] h) (ix2 i l) = X (ix2 t k) := by
  refine congrArg X ?_
  funext a
  match a with
  | ⟨0, _⟩ => exact Fin.ext (by show o 0 + 1 * i.val = t.val; omega)
  | ⟨1, _⟩ => exact Fin.ext (by show o 1 + 1 * l.val = k.val; omega)

/-- The largest magnitude in columns `32 q …` of row `r`. -/
def rowMax (x0 : Vec Ideal S256x4608 .bf16) (r : Fin 256) (q : Fin 144) : EReal :=
  amx fun k => x0 (ix2 r ⟨32 * q.val + k.val, by omega⟩)

/-- The largest magnitude in rows `32 g …` of column `n`. -/
def colMax (x0 : Vec Ideal S256x4608 .bf16) (g : Fin 8) (n : Fin 4608) : EReal :=
  amx fun k => x0 (ix2 ⟨32 * g.val + k.val, by omega⟩ n)

/-- Row `a` of what is stored into the scratch buffer is the largest magnitude of each row of 32 columns from `32 a`. -/
theorem pay84_apply (v : Vec Ideal S256x128 .bf16) (a : Fin 4) (r : Fin 256) :
    k0_pay84 (F := Ideal) v (ix2 a r) = amx fun k => v (ix2 r ⟨32 * a.val + k.val, by omega⟩) := by
  pointwise [k0_pay84]
  rw [negInf32]
  unfold amx
  congr 1
  funext k
  exact congrArg (fun z => FloatOps.absf (F := Ideal) (φ := .bf16) (v (ix2 r z))) (Fin.ext (by show a.val * 32 + k.val = 32 * a.val + k.val; omega))

/-- The row scale bytes are the transposed bytes of the scratch buffer's numbers. -/
theorem rowBytes_eq (A : Vec Ideal S256x256 .f32) :
    rowBytes A = transpose S256x256 [1, 0] (vbyte (k0_pay124 (F := Ideal) A)) transposes_S256x256_p1_0_S256x256 := rfl

/-- The row scale byte at `(r, q)` is the byte of the scratch buffer's number at `(q, r)`. -/
theorem rowBytes_apply (A : Vec Ideal S256x256 .f32) (r q : Fin 256) :
    rowBytes A (ix2 r q) = byteOf (A (ix2 q r)) := by
  refine (congrFun (rowBytes_eq A) _).trans ?_
  pointwise
  refine (vbyte_apply _ _).trans (congrArg byteOf' ?_)
  pointwise [k0_pay124]

/-- The arithmetic on words that gives a lane's column: `l / 32 + 4 f`. -/
theorem lane_word : ∀ (f : Fin 32) (l : Fin 128),
    (Scalar.select
      (IntOp.cmpi CmpIPredicate.slt
        (IntOp.addi (IntOp.shrui ArithUnit.vector (BitVec.ofNat 32 l.val) 5#32) (BitVec.ofNat 32 (4 * f.val))) 0#32)
      (IntOp.addi (IntOp.addi (IntOp.shrui ArithUnit.vector (BitVec.ofNat 32 l.val) 5#32) (BitVec.ofNat 32 (4 * f.val)))
        128#32)
      (IntOp.addi (IntOp.shrui ArithUnit.vector (BitVec.ofNat 32 l.val) 5#32) (BitVec.ofNat 32 (4 * f.val)))).toNat % 128
      = l.val / 32 + 4 * f.val := by
  decide +kernel

/-- Lane `l` of the tile whose first column is `4 f` gathers from column `l / 32 + 4 f`. -/
theorem lanes_at (f : Fin 32) (i : Fin 256) (l : Fin 128) :
    (lanes (BitVec.ofNat 32 (4 * f.val)) (ix2 i l)).toNat % 128 = l.val / 32 + 4 * f.val := by
  pointwise [lanes]
  exact lane_word f l

/-- Lane `l` of columns `128 c …` holds the power of two of column block `4 c + l / 32`. -/
theorem spread_at (c : Fin 36) (s : FVec Ideal S256x256 .bf16) (r : Fin 256) (l : Fin 128) (q : Fin 256) (hq : q.val = 4 * c.val + l.val / 32) :
    spread c s (ix2 r l) = s (ix2 r q) := by
  have e := lanes_at ⟨c.val % 32, Nat.mod_lt _ (by omega)⟩ r l
  pointwise [spread]
  exact congrArg (fun z => s (ix2 r z)) (Fin.ext (by
    show 128 * (c.val / 32) + (lanes (BitVec.ofNat 32 (4 * (c.val % 32))) (ix2 r l)).toNat % 128 = q.val
    rw [e, hq]
    show 128 * (c.val / 32) + (l.val / 32 + 4 * (c.val % 32)) = 4 * c.val + l.val / 32
    omega))

/-- A row code of 128 columns is the code under its block's byte. -/
theorem rowCodes_at (c : Fin 36) (A : Vec Ideal S256x256 .f32) (v : Vec Ideal S256x128 .bf16) (r : Fin 256) (l : Fin 128) (q : Fin 256) (hq : q.val = 4 * c.val + l.val / 32) :
    rowCodes c A v (ix2 r l) = codeOf (v (ix2 r l)) (byteOf (A (ix2 q r))) := by
  rw [← rowBytes_apply]
  pointwise [rowCodes, rowQ]
  rw [spread_at c _ r l q hq]
  rfl

/-- A dequantised row code is the code times its block's power of two. -/
theorem rowDeq_at (c : Fin 36) (A : Vec Ideal S256x256 .f32) (v : Vec Ideal S256x128 .bf16) (r : Fin 256) (l : Fin 128) (q : Fin 256) (hq : q.val = 4 * c.val + l.val / 32) :
    rowDeq c A v (ix2 r l) = codeOf (v (ix2 r l)) (byteOf (A (ix2 q r))) * pw (byteOf (A (ix2 q r))) := by
  rw [← rowCodes_at c A v r l q hq, ← rowBytes_apply]
  show rowCodes c A v (ix2 r l) * spread c (rowDec A) (ix2 r l) = _
  rw [spread_at c _ r l q hq]
  rfl

/-- After its stores the scratch buffer holds the largest magnitude of row `r`, block `q`, at `(q, r)`. -/
theorem scr_at (arg8 : Memref sig .tc .vmem S256x256 .f32) (f8 : arg8.view.ty.Contents (Elt Ideal)) (x0 : Vec Ideal S256x4608 .bf16) (q : Fin 144) (q' : Fin 256) (hq : q'.val = q.val) (r : Fin 256) :
    arg8.view.read (Elt Ideal) (arg8.view.writes (Elt Ideal) f8 (scrL x0)) (ix2 q' r) = rowMax x0 r q := by
  refine (View.read_tilePieces arg8.view f8 ![4, 256] (fun c : Fin 36 => ![4 * c.val, 0]) inbS _ 36 le_rfl (ix2 q' r)
    ⟨q.val / 4, by omega⟩ (by show q.val / 4 < 36; omega) (ix2 (⟨q.val % 4, Nat.mod_lt _ (by omega)⟩ : Fin 4) r) ?_ 0 ?_).trans ?_
  · intro a
    match a with
    | ⟨0, _⟩ => show q'.val = 4 * (q.val / 4) + q.val % 4; omega
    | ⟨1, _⟩ => show r.val = 0 + r.val; omega
  · intro c hc
    have hne : c.val ≠ q.val / 4 := fun h => hc (Fin.ext h)
    show q'.val < 4 * c.val ∨ 4 * c.val + 4 ≤ q'.val
    omega
  · refine (pay84_apply _ _ _).trans ?_
    unfold rowMax
    congr 1
    funext k
    refine ld_at x0 _ _ _ _ r _ (by show r.val = 0 + r.val; omega) ?_
    show 32 * q.val + k.val = 128 * (q.val / 4) + (32 * (q.val % 4) + k.val)
    omega

/-- The scale byte of row `r`, columns `32 q …`. -/
def rowB (x0 : Vec Ideal S256x4608 .bf16) (r : Fin 256) (q : Fin 144) : BitVec 32 := byteOf (rowMax x0 r q)

/-- The scale byte of column `n`, rows `32 g …`. -/
def colB (x0 : Vec Ideal S256x4608 .bf16) (g : Fin 8) (n : Fin 4608) : BitVec 32 := byteOf (colMax x0 g n)

/-- A row code the body leaves is the code of the tile's entry under its row block's byte. -/
theorem out1_at (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (r : Fin 256) (n : Fin 4608) :
    out1 (F := Ideal) c i arg1 harg1 arg2 harg2 arg3 harg3 arg4 harg4 arg5 harg5 arg6 harg6 arg7 harg7 arg8 harg8 x0 f5 f8 (ix2 r n) = codeOf (x0 (ix2 r n)) (rowB x0 r ⟨n.val / 32, by omega⟩) := by
  refine (out1_eq c i arg1 harg1 arg2 harg2 arg3 harg3 arg4 harg4 arg5 harg5 arg6 harg6 arg7 harg7 arg8 harg8 x0 f5 f8 _).trans ((canon_tiles_at (VO1 : View sig .tc .vmem S256x4608 .fp8e4m3) (VO1.junk) ![256, 128] (fun c : Fin 36 => ![0, 128 * c.val]) inbC _ (ix2 r n) ⟨n.val / 128, by omega⟩ (ix2 r (⟨n.val % 128, Nat.mod_lt _ (by omega)⟩ : Fin 128)) ?_ 1 ?_).trans ?_)
  · intro a
    match a with
    | ⟨0, _⟩ => show r.val = 0 + r.val; omega
    | ⟨1, _⟩ => show n.val = 128 * (n.val / 128) + n.val % 128; omega
  · intro c hc
    have hne : c.val ≠ n.val / 128 := fun h => hc (Fin.ext h)
    show n.val < 128 * c.val ∨ 128 * c.val + 128 ≤ n.val
    omega
  · rw [rowCodes_at _ _ _ _ _ ⟨n.val / 32, by omega⟩ (by show n.val / 32 = 4 * (n.val / 128) + n.val % 128 / 32; omega)]
    rw [scr_at _ _ _ ⟨n.val / 32, by omega⟩ _ rfl]
    rw [ld_at x0 _ _ r (⟨n.val % 128, Nat.mod_lt _ (by omega)⟩ : Fin 128) r n (by show r.val = 0 + r.val; omega) (by show n.val = 128 * (n.val / 128) + n.val % 128; omega)]
    rfl

/-- A dequantised row code the body leaves is the code times its row block's power of two. -/
theorem out5_at (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (r : Fin 256) (n : Fin 4608) :
    out5 (F := Ideal) c i arg1 harg1 arg2 harg2 arg3 harg3 arg4 harg4 arg5 harg5 arg6 harg6 arg7 harg7 arg8 harg8 x0 f5 f8 (ix2 r n) = codeOf (x0 (ix2 r n)) (rowB x0 r ⟨n.val / 32, by omega⟩) * pw (rowB x0 r ⟨n.val / 32, by omega⟩) := by
  refine (out5_eq c i arg1 harg1 arg2 harg2 arg3 harg3 arg4 harg4 arg5 harg5 arg6 harg6 arg7 harg7 arg8 harg8 x0 f5 f8 _).trans ((canon_tiles_at (VO5 : View sig .tc .vmem S256x4608 .bf16) (VO5.junk) ![256, 128] (fun c : Fin 36 => ![0, 128 * c.val]) inbC _ (ix2 r n) ⟨n.val / 128, by omega⟩ (ix2 r (⟨n.val % 128, Nat.mod_lt _ (by omega)⟩ : Fin 128)) ?_ 1 ?_).trans ?_)
  · intro a
    match a with
    | ⟨0, _⟩ => show r.val = 0 + r.val; omega
    | ⟨1, _⟩ => show n.val = 128 * (n.val / 128) + n.val % 128; omega
  · intro c hc
    have hne : c.val ≠ n.val / 128 := fun h => hc (Fin.ext h)
    show n.val < 128 * c.val ∨ 128 * c.val + 128 ≤ n.val
    omega
  · rw [rowDeq_at _ _ _ _ _ ⟨n.val / 32, by omega⟩ (by show n.val / 32 = 4 * (n.val / 128) + n.val % 128 / 32; omega)]
    rw [scr_at _ _ _ ⟨n.val / 32, by omega⟩ _ rfl]
    rw [ld_at x0 _ _ r (⟨n.val % 128, Nat.mod_lt _ (by omega)⟩ : Fin 128) r n (by show r.val = 0 + r.val; omega) (by show n.val = 128 * (n.val / 128) + n.val % 128; omega)]
    rfl

/-- A row scale byte the body leaves is its row block's byte. -/
theorem out2_at (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (r : Fin 256) (q : Fin 144) :
    out2 (F := Ideal) c i arg1 harg1 arg2 harg2 arg3 harg3 arg4 harg4 arg5 harg5 arg6 harg6 arg7 harg7 arg8 harg8 x0 f5 f8 (ix2 r q) = (rowB x0 r q).setWidth 8 := by
  refine (out2_eq c i arg1 harg1 arg2 harg2 arg3 harg3 arg4 harg4 arg5 harg5 arg6 harg6 arg7 harg7 arg8 harg8 x0 f5 f8 _).trans ?_
  pointwise
  rw [show (⟨q.val, by omega⟩ : Fin 256) = ⟨q.val, by omega⟩ from rfl, rowBytes_apply, scr_at _ _ _ q _ rfl]
  rfl

/-- Row `i` of the rows `32 g …` of a tile is the tile's row `32 g + i`. -/
theorem colTile (x0 : Vec Ideal S256x4608 .bf16) (r : Fin 256) (n : Fin 4608) (g : Fin 8) (i : Fin 32) (h : r.val = 32 * g.val + i.val) :
    View.ld x0 (Rect.unit ![32 * g.val, 0] ![32, 4608] (inbR g)) (ix2 i n) = x0 (ix2 r n) :=
  ld_at x0 _ _ i n r n (by show r.val = 32 * g.val + i.val; exact h) (by show n.val = 0 + n.val; omega)

/-- A column code the body leaves is the code of the tile's entry under its column block's byte. -/
theorem out3_at (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (r : Fin 256) (n : Fin 4608) :
    out3 (F := Ideal) c i arg1 harg1 arg2 harg2 arg3 harg3 arg4 harg4 arg5 harg5 arg6 harg6 arg7 harg7 arg8 harg8 x0 f5 f8 (ix2 r n) = codeOf (x0 (ix2 r n)) (colB x0 ⟨r.val / 32, by omega⟩ n) := by
  refine (out3_eq c i arg1 harg1 arg2 harg2 arg3 harg3 arg4 harg4 arg5 harg5 arg6 harg6 arg7 harg7 arg8 harg8 x0 f5 f8 _).trans ((canon_tiles_at (VO3 : View sig .tc .vmem S256x4608 .fp8e4m3) (VO3.junk) ![32, 4608] (fun c : Fin 8 => ![32 * c.val, 0]) inbR _ (ix2 r n) ⟨r.val / 32, by omega⟩ (ix2 (⟨r.val % 32, Nat.mod_lt _ (by omega)⟩ : Fin 32) n) ?_ 0 ?_).trans ?_)
  · intro a
    match a with
    | ⟨0, _⟩ => show r.val = 32 * (r.val / 32) + r.val % 32; omega
    | ⟨1, _⟩ => show n.val = 0 + n.val; omega
  · intro c hc
    have hne : c.val ≠ r.val / 32 := fun h => hc (Fin.ext h)
    show r.val < 32 * c.val ∨ 32 * c.val + 32 ≤ r.val
    omega
  · rw [colCodes_apply, colTile x0 r n ⟨r.val / 32, by omega⟩ _ (by show r.val = 32 * (r.val / 32) + r.val % 32; omega)]
    unfold colB colMax
    congr 3
    funext k
    exact colTile x0 _ n ⟨r.val / 32, by omega⟩ k rfl

/-- A dequantised column code the body leaves is the code times its column block's power of two. -/
theorem out6_at (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (r : Fin 256) (n : Fin 4608) :
    out6 (F := Ideal) c i arg1 harg1 arg2 harg2 arg3 harg3 arg4 harg4 arg5 harg5 arg6 harg6 arg7 harg7 arg8 harg8 x0 f5 f8 (ix2 r n) = codeOf (x0 (ix2 r n)) (colB x0 ⟨r.val / 32, by omega⟩ n) * pw (colB x0 ⟨r.val / 32, by omega⟩ n) := by
  refine (out6_eq c i arg1 harg1 arg2 harg2 arg3 harg3 arg4 harg4 arg5 harg5 arg6 harg6 arg7 harg7 arg8 harg8 x0 f5 f8 _).trans ((canon_tiles_at (VO6 : View sig .tc .vmem S256x4608 .bf16) (VO6.junk) ![32, 4608] (fun c : Fin 8 => ![32 * c.val, 0]) inbR _ (ix2 r n) ⟨r.val / 32, by omega⟩ (ix2 (⟨r.val % 32, Nat.mod_lt _ (by omega)⟩ : Fin 32) n) ?_ 0 ?_).trans ?_)
  · intro a
    match a with
    | ⟨0, _⟩ => show r.val = 32 * (r.val / 32) + r.val % 32; omega
    | ⟨1, _⟩ => show n.val = 0 + n.val; omega
  · intro c hc
    have hne : c.val ≠ r.val / 32 := fun h => hc (Fin.ext h)
    show r.val < 32 * c.val ∨ 32 * c.val + 32 ≤ r.val
    omega
  · have hm : (amx fun k : Fin 32 => View.ld x0 (Rect.unit ![32 * (r.val / 32), 0] ![32, 4608] (inbR ⟨r.val / 32, by omega⟩)) (ix2 k n)) = colMax x0 ⟨r.val / 32, by omega⟩ n := by
      unfold colMax
      congr 1
      funext k
      exact colTile x0 _ n ⟨r.val / 32, by omega⟩ k rfl
    rw [colDeq_apply, colTile x0 r n ⟨r.val / 32, by omega⟩ _ (by show r.val = 32 * (r.val / 32) + r.val % 32; omega)]
    unfold colB
    rw [← hm]

/-- The bytes of the rows `32 g …` of a tile, one per column. -/
def byteRow (x0 : Vec Ideal S256x4608 .bf16) (g : Fin 8) : Vec Ideal S1x1x4608 .i8 :=
  k0_pay7 (F := Ideal) (k0_pay4 (View.ld x0 (Rect.unit ![32 * g.val, 0] ![32, 4608] (inbR g)))) (k0_pay5 (View.ld x0 (Rect.unit ![32 * g.val, 0] ![32, 4608] (inbR g))))

/-- The bytes of the rows `32 g …` are those of their columns' blocks. -/
theorem byteRow_apply (x0 : Vec Ideal S256x4608 .bf16) (g : Fin 8) (n : Fin 4608) : byteRow x0 g (ix3 0 0 n) = (colB x0 g n).setWidth 8 := by
  have h := colByte_apply (View.ld x0 (Rect.unit ![32 * g.val, 0] ![32, 4608] (inbR g))) n
  refine Eq.trans (b := (colByte (View.ld x0 (Rect.unit ![32 * g.val, 0] ![32, 4608] (inbR g))) (ix2 0 n)).setWidth 8) ?_ ?_
  · pointwise [byteRow, k0_pay7, colByte]
  · rw [h]
    unfold colB colMax
    congr 3
    funext k
    exact colTile x0 _ n g k rfl

/-- Row 0 of four rows of bytes overwritten. -/
def quad0 (o : Vec Ideal S1x4x4608 .i8) (b : Vec Ideal S1x1x4608 .i8) : Vec Ideal S1x4x4608 .i8 := updateSlice o b ![0, 0, 0] slices_S1x4x4608_S1x1x4608_0_0_0
/-- Row 1 of four rows of bytes overwritten. -/
def quad1 (o : Vec Ideal S1x4x4608 .i8) (b : Vec Ideal S1x1x4608 .i8) : Vec Ideal S1x4x4608 .i8 := updateSlice o b ![0, 1, 0] slices_S1x4x4608_S1x1x4608_0_1_0
/-- Row 2 of four rows of bytes overwritten. -/
def quad2 (o : Vec Ideal S1x4x4608 .i8) (b : Vec Ideal S1x1x4608 .i8) : Vec Ideal S1x4x4608 .i8 := updateSlice o b ![0, 2, 0] slices_S1x4x4608_S1x1x4608_0_2_0
/-- Row 3 of four rows of bytes overwritten. -/
def quad3 (o : Vec Ideal S1x4x4608 .i8) (b : Vec Ideal S1x1x4608 .i8) : Vec Ideal S1x4x4608 .i8 := updateSlice o b ![0, 3, 0] slices_S1x4x4608_S1x1x4608_0_3_0

/-- An index outside the four newest pieces' rectangle reads the older ones. -/
theorem canon_skip {s : Shape} {e : EltTy} (r : Rect s) (a b c d : r.shape.Idx → Elt Ideal e) (L : List (View.Piece (Elt Ideal) s e)) (y : s.Idx) (h : y ∉ r.set) :
    View.canon (⟨r, a⟩ :: ⟨r, b⟩ :: ⟨r, c⟩ :: ⟨r, d⟩ :: L) y = View.canon L y :=
  (View.canon_cons_of_not_mem ⟨r, a⟩ _ h).trans ((View.canon_cons_of_not_mem ⟨r, b⟩ _ h).trans ((View.canon_cons_of_not_mem ⟨r, c⟩ _ h).trans (View.canon_cons_of_not_mem ⟨r, d⟩ _ h)))

/-- An index of the newest piece's rectangle reads its payload. -/
theorem canon_head {s : Shape} {e : EltTy} (r : Rect s) (a : r.shape.Idx → Elt Ideal e) (L : List (View.Piece (Elt Ideal) s e)) (y : s.Idx) (x : r.shape.Idx) (h : y = r.emb x) :
    View.canon (⟨r, a⟩ :: L) y = a x := by
  rw [h]; exact View.canon_cons_emb r a L x

/-- Four rows of bytes, whatever stood there before. -/
def quad (o : Vec Ideal S1x4x4608 .i8) (b : Fin 4 → Vec Ideal S1x1x4608 .i8) : Vec Ideal S1x4x4608 .i8 :=
  quad3 (quad2 (quad1 (quad0 o (b 0)) (b 1)) (b 2)) (b 3)

/-- Four rows of bytes read as the rows written, whatever stood there before. -/
theorem quad_apply (o : Vec Ideal S1x4x4608 .i8) (b : Fin 4 → Vec Ideal S1x1x4608 .i8) (a : Fin 4) (n : Fin 4608) :
    quad o b (ix3 0 a n) = b a (ix3 0 0 n) := by
  match a with
  | ⟨0, _⟩ => pointwise [quad, quad0, quad1, quad2, quad3]
  | ⟨1, _⟩ => pointwise [quad, quad0, quad1, quad2, quad3]
  | ⟨2, _⟩ => pointwise [quad, quad0, quad1, quad2, quad3]
  | ⟨3, _⟩ => pointwise [quad, quad0, quad1, quad2, quad3]

/-- The first four of the eight rows of bytes. -/
abbrev rQ0 : Rect S1x8x4608 := Rect.unit ![0, 0, 0] ![1, 4, 4608] inb_S1x8x4608_S1x4x4608_0_0_0
/-- The last four of the eight rows of bytes. -/
abbrev rQ1 : Rect S1x8x4608 := Rect.unit ![0, 4, 0] ![1, 4, 4608] inb_S1x8x4608_S1x4x4608_0_4_0

/-- The column scale bytes the body leaves are those of its last stores: two times four rows of bytes over older ones. -/
theorem out4_eq (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (y : S1x8x4608.Idx) :
    ∃ (o0 o1 : Vec Ideal S1x4x4608 .i8) (p1 p2 p3 p5 p6 p7 : Vec Ideal S1x4x4608 .i8),
      out4 (F := Ideal) c i arg1 harg1 arg2 harg2 arg3 harg3 arg4 harg4 arg5 harg5 arg6 harg6 arg7 harg7 arg8 harg8 x0 f5 f8 y = View.canon
        [(⟨rQ1, quad o1 fun a => byteRow x0 ⟨4 + a.val, by omega⟩⟩ : View.Piece (Elt Ideal) S1x8x4608 .i8), ⟨rQ1, p5⟩, ⟨rQ1, p6⟩, ⟨rQ1, p7⟩,
          ⟨rQ0, quad o0 fun a => byteRow x0 ⟨a.val, by omega⟩⟩, ⟨rQ0, p1⟩, ⟨rQ0, p2⟩, ⟨rQ0, p3⟩] y := by
  refine ⟨?o0, ?o1, ?p1, ?p2, ?p3, ?p5, ?p6, ?p7, ?h⟩
  case h =>
    frame_out
    simp only [View.readCov_cons_toLoadRect]
    rfl

/-- A column scale byte the body leaves is its column block's byte. -/
theorem out4_at (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) (g : Fin 8) (n : Fin 4608) :
    out4 (F := Ideal) c i arg1 harg1 arg2 harg2 arg3 harg3 arg4 harg4 arg5 harg5 arg6 harg6 arg7 harg7 arg8 harg8 x0 f5 f8 (ix3 0 g n) = (colB x0 g n).setWidth 8 := by
  obtain ⟨o0, o1, p1, p2, p3, p5, p6, p7, h⟩ := out4_eq c i arg1 harg1 arg2 harg2 arg3 harg3 arg4 harg4 arg5 harg5 arg6 harg6 arg7 harg7 arg8 harg8 x0 f5 f8 (ix3 0 g n)
  refine h.trans (Eq.trans ?_ (byteRow_apply x0 g n))
  by_cases hg : g.val < 4
  · have hn : (ix3 0 g n : S1x8x4608.Idx) ∉ rQ1.set := by
      rw [Rect.mem_set_unit]
      intro hh
      have h4 : 4 ≤ g.val := (hh 1).1
      omega
    refine (canon_skip rQ1 _ p5 p6 p7 _ _ hn).trans ?_
    refine (canon_head rQ0 _ _ _ (ix3 0 (⟨g.val, hg⟩ : Fin 4) n) ?_).trans (quad_apply o0 (fun a => byteRow x0 ⟨a.val, by omega⟩) ⟨g.val, hg⟩ n)
    funext a
    match a with
    | ⟨0, _⟩ => rfl
    | ⟨1, _⟩ => exact Fin.ext (by show g.val = 0 + 1 * g.val; omega)
    | ⟨2, _⟩ => exact Fin.ext (by show n.val = 0 + 1 * n.val; omega)
  · refine (canon_head rQ1 _ _ _ (ix3 0 (⟨g.val - 4, by omega⟩ : Fin 4) n) ?_).trans ?_
    · funext a
      match a with
      | ⟨0, _⟩ => rfl
      | ⟨1, _⟩ => exact Fin.ext (by show g.val = 4 + 1 * (g.val - 4); omega)
      | ⟨2, _⟩ => exact Fin.ext (by show n.val = 0 + 1 * n.val; omega)
    · refine (quad_apply o1 (fun a => byteRow x0 ⟨4 + a.val, by omega⟩) ⟨g.val - 4, by omega⟩ n).trans ?_
      exact congrArg (fun z => byteRow x0 z (ix3 0 0 n)) (Fin.ext (by show 4 + (g.val - 4) = g.val; omega))

/-- The row codes of a tile. -/
def qRowCodes (x0 : Vec Ideal S256x4608 .bf16) : Vec Ideal S256x4608 .fp8e4m3 := fun y =>
  codeOf (x0 y) (rowB x0 (y 0) ⟨(y 1).val / 32, by have : (y 1).val < 4608 := (y 1).isLt; omega⟩)

/-- The row scale bytes of a tile. -/
def qRowScales (x0 : Vec Ideal S256x4608 .bf16) : Vec Ideal S256x144 .i8 := fun y => (rowB x0 (y 0) (y 1)).setWidth 8

/-- The column codes of a tile. -/
def qColCodes (x0 : Vec Ideal S256x4608 .bf16) : Vec Ideal S256x4608 .fp8e4m3 := fun y =>
  codeOf (x0 y) (colB x0 ⟨(y 0).val / 32, by have : (y 0).val < 256 := (y 0).isLt; omega⟩ (y 1))

/-- The column scale bytes of a tile. -/
def qColScales (x0 : Vec Ideal S256x4608 .bf16) : Vec Ideal S1x8x4608 .i8 := fun y => (colB x0 (y 1) (y 2)).setWidth 8

/-- The tile read back from its row codes and scales. -/
def qRowDeq (x0 : Vec Ideal S256x4608 .bf16) : Vec Ideal S256x4608 .bf16 := fun y =>
  qRowCodes x0 y * pw (rowB x0 (y 0) ⟨(y 1).val / 32, by have : (y 1).val < 4608 := (y 1).isLt; omega⟩)

/-- The tile read back from its column codes and scales. -/
def qColDeq (x0 : Vec Ideal S256x4608 .bf16) : Vec Ideal S256x4608 .bf16 := fun y =>
  qColCodes x0 y * pw (colB x0 ⟨(y 0).val / 32, by have : (y 0).val < 256 := (y 0).isLt; omega⟩ (y 1))

/-- The body leaves the tile's row codes. -/
theorem out1_spec (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) : out1 (F := Ideal) c i arg1 harg1 arg2 harg2 arg3 harg3 arg4 harg4 arg5 harg5 arg6 harg6 arg7 harg7 arg8 harg8 x0 f5 f8 = qRowCodes x0 := by
  funext y
  obtain ⟨r, n, rfl⟩ : ∃ r n, y = ix2 r n := ⟨y 0, y 1, eq_ix2 y⟩
  exact out1_at c i arg1 harg1 arg2 harg2 arg3 harg3 arg4 harg4 arg5 harg5 arg6 harg6 arg7 harg7 arg8 harg8 x0 f5 f8 r n

/-- The body leaves the tile's row scale bytes. -/
theorem out2_spec (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) : out2 (F := Ideal) c i arg1 harg1 arg2 harg2 arg3 harg3 arg4 harg4 arg5 harg5 arg6 harg6 arg7 harg7 arg8 harg8 x0 f5 f8 = qRowScales x0 := by
  funext y
  obtain ⟨r, n, rfl⟩ : ∃ r n, y = ix2 r n := ⟨y 0, y 1, eq_ix2 y⟩
  exact out2_at c i arg1 harg1 arg2 harg2 arg3 harg3 arg4 harg4 arg5 harg5 arg6 harg6 arg7 harg7 arg8 harg8 x0 f5 f8 r n

/-- The body leaves the tile's column codes. -/
theorem out3_spec (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) : out3 (F := Ideal) c i arg1 harg1 arg2 harg2 arg3 harg3 arg4 harg4 arg5 harg5 arg6 harg6 arg7 harg7 arg8 harg8 x0 f5 f8 = qColCodes x0 := by
  funext y
  obtain ⟨r, n, rfl⟩ : ∃ r n, y = ix2 r n := ⟨y 0, y 1, eq_ix2 y⟩
  exact out3_at c i arg1 harg1 arg2 harg2 arg3 harg3 arg4 harg4 arg5 harg5 arg6 harg6 arg7 harg7 arg8 harg8 x0 f5 f8 r n

/-- The body leaves the tile's dequantised row codes. -/
theorem out5_spec (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) : out5 (F := Ideal) c i arg1 harg1 arg2 harg2 arg3 harg3 arg4 harg4 arg5 harg5 arg6 harg6 arg7 harg7 arg8 harg8 x0 f5 f8 = qRowDeq x0 := by
  funext y
  obtain ⟨r, n, rfl⟩ : ∃ r n, y = ix2 r n := ⟨y 0, y 1, eq_ix2 y⟩
  exact out5_at c i arg1 harg1 arg2 harg2 arg3 harg3 arg4 harg4 arg5 harg5 arg6 harg6 arg7 harg7 arg8 harg8 x0 f5 f8 r n

/-- The body leaves the tile's dequantised column codes. -/
theorem out6_spec (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) : out6 (F := Ideal) c i arg1 harg1 arg2 harg2 arg3 harg3 arg4 harg4 arg5 harg5 arg6 harg6 arg7 harg7 arg8 harg8 x0 f5 f8 = qColDeq x0 := by
  funext y
  obtain ⟨r, n, rfl⟩ : ∃ r n, y = ix2 r n := ⟨y 0, y 1, eq_ix2 y⟩
  exact out6_at c i arg1 harg1 arg2 harg2 arg3 harg3 arg4 harg4 arg5 harg5 arg6 harg6 arg7 harg7 arg8 harg8 x0 f5 f8 r n

/-- The body leaves the tile's column scale bytes. -/
theorem out4_spec (c : Dev nD) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x144 .i8) (harg3 : arg3.IsWhole) (arg4 : Memref sig .tc .vmem S256x4608 .fp8e4m3) (harg4 : arg4.IsWhole) (arg5 : Memref sig .tc .vmem S1x8x4608 .i8) (harg5 : arg5.IsWhole) (arg6 : Memref sig .tc .vmem S256x4608 .bf16) (harg6 : arg6.IsWhole) (arg7 : Memref sig .tc .vmem S256x4608 .bf16) (harg7 : arg7.IsWhole) (arg8 : Memref sig .tc .vmem S256x256 .f32) (harg8 : arg8.IsWhole)
    (x0 : Vec Ideal S256x4608 .bf16) (f5 : Buf (Elt Ideal) (arg5.view.loc (c : Thread nD τ))) (f8 : Buf (Elt Ideal) (arg8.view.loc (c : Thread nD τ))) : out4 (F := Ideal) c i arg1 harg1 arg2 harg2 arg3 harg3 arg4 harg4 arg5 harg5 arg6 harg6 arg7 harg7 arg8 harg8 x0 f5 f8 = qColScales x0 := by
  funext y
  obtain ⟨z, g, n, rfl⟩ : ∃ z g n, y = ix3 z g n := ⟨y 0, y 1, y 2, eq_ix3 y⟩
  have hz : z = 0 := Subsingleton.elim (α := Fin 1) _ _
  subst hz
  exact out4_at c i arg1 harg1 arg2 harg2 arg3 harg3 arg4 harg4 arg5 harg5 arg6 harg6 arg7 harg7 arg8 harg8 x0 f5 f8 g n

end Cert.QuantIdeal.Hand

end
-- ==== Proof.QuantIdealFrame.lean ====
/- The run of the quantise kernel at any values: what each of its buffers holds at the end, as the pieces its stores wrote. -/
module

public import proofs.«01_k».proof.Proof.QuantOut
public import proofs.«01_k».proof.Proof.Gen.QuantIdeal.Launch
public import proofs.«01_k».proof.Proof.Gen.QuantIdeal.Skeleton
public import proofs.«01_k».proof.Proof.Gen.QuantIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.QuantIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QuantIdeal Cert.QuantIdeal.Gen

local notation "𝕄" => MT nD τ sig Unit (Elt Ideal) ℕ (UR sig nD τ) ℕ

variable (m : (ℓ : Loc nD τ sig) → Buf (Elt Ideal) ℓ) (ρ : Dev nD → PrngReg)

/-- Each window's current staging memref at point `t`, spelled as the pipeline passes it (`bodyAt0`), and its wholeness. -/
abbrev ms0_0 (t : Fin cfg0.N) : Memref sig .tc .vmem S256x4608 .bf16 := win0_0.stage (cfg0.slots t 0)
/-- Window 0's staging memref is whole. -/
abbrev hs0_0 (t : Fin cfg0.N) : (ms0_0 t).IsWhole := hstage0_0 ((cfg0.slots t 0).cast nbuf0_0)
/-- Window 1's current staging memref at point `t`. -/
abbrev ms0_1 (t : Fin cfg0.N) : Memref sig .tc .vmem S256x4608 .fp8e4m3 := win0_1.stage (cfg0.slots t 1)
/-- Window 1's staging memref is whole. -/
abbrev hs0_1 (t : Fin cfg0.N) : (ms0_1 t).IsWhole := hstage0_1 ((cfg0.slots t 1).cast nbuf0_1)
/-- Window 2's current staging memref at point `t`. -/
abbrev ms0_2 (t : Fin cfg0.N) : Memref sig .tc .vmem S256x144 .i8 := win0_2.stage (cfg0.slots t 2)
/-- Window 2's staging memref is whole. -/
abbrev hs0_2 (t : Fin cfg0.N) : (ms0_2 t).IsWhole := hstage0_2 ((cfg0.slots t 2).cast nbuf0_2)
/-- Window 3's current staging memref at point `t`. -/
abbrev ms0_3 (t : Fin cfg0.N) : Memref sig .tc .vmem S256x4608 .fp8e4m3 := win0_3.stage (cfg0.slots t 3)
/-- Window 3's staging memref is whole. -/
abbrev hs0_3 (t : Fin cfg0.N) : (ms0_3 t).IsWhole := hstage0_3 ((cfg0.slots t 3).cast nbuf0_3)
/-- Window 4's current staging memref at point `t`. -/
abbrev ms0_4 (t : Fin cfg0.N) : Memref sig .tc .vmem S1x8x4608 .i8 := win0_4.stage (cfg0.slots t 4)
/-- Window 4's staging memref is whole. -/
abbrev hs0_4 (t : Fin cfg0.N) : (ms0_4 t).IsWhole := hstage0_4 ((cfg0.slots t 4).cast nbuf0_4)
/-- Window 5's current staging memref at point `t`. -/
abbrev ms0_5 (t : Fin cfg0.N) : Memref sig .tc .vmem S256x4608 .bf16 := win0_5.stage (cfg0.slots t 5)
/-- Window 5's staging memref is whole. -/
abbrev hs0_5 (t : Fin cfg0.N) : (ms0_5 t).IsWhole := hstage0_5 ((cfg0.slots t 5).cast nbuf0_5)
/-- Window 6's current staging memref at point `t`. -/
abbrev ms0_6 (t : Fin cfg0.N) : Memref sig .tc .vmem S256x4608 .bf16 := win0_6.stage (cfg0.slots t 6)
/-- Window 6's staging memref is whole. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the outputs hold -/

/-- The tile at point `t`. -/
abbrev tileAt (c : Dev nD) (t : Fin cfg0.N) : Vec Ideal S256x4608 .bf16 := iblk m c 0 t

/-- The arrays as the region finds them; after the body at point `t` the input's block in place and each output at its
    function of that block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => qRowCodes (tileAt m c t)
    | ⟨2, _⟩ => qRowScales (tileAt m c t)
    | ⟨3, _⟩ => qColCodes (tileAt m c t)
    | ⟨4, _⟩ => qColScales (tileAt m c t)
    | ⟨5, _⟩ => qRowDeq (tileAt m c t)
    | ⟨6, _⟩ => qColDeq (tileAt m c t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- The body leaves the input's block as it is. -/
theorem after0_0 (c : Dev nD) (t : Fin cfg0.N) : (dats m 0 c).after 0 t = iblk m c 0 t := by dsimp only [dats]
/-- After the body at a point, window 1's buffer holds the row codes of the point's tile. -/
theorem after0_1 (c : Dev nD) (t : Fin cfg0.N) : (dats m 0 c).after 1 t = qRowCodes (tileAt m c t) := by dsimp only [dats]
/-- After the body at a point, window 2's buffer holds the row scale bytes of the point's tile. -/
theorem after0_2 (c : Dev nD) (t : Fin cfg0.N) : (dats m 0 c).after 2 t = qRowScales (tileAt m c t) := by dsimp only [dats]
/-- After the body at a point, window 3's buffer holds the column codes of the point's tile. -/
theorem after0_3 (c : Dev nD) (t : Fin cfg0.N) : (dats m 0 c).after 3 t = qColCodes (tileAt m c t) := by dsimp only [dats]
/-- After the body at a point, window 4's buffer holds the column scale bytes of the point's tile. -/
theorem after0_4 (c : Dev nD) (t : Fin cfg0.N) : (dats m 0 c).after 4 t = qColScales (tileAt m c t) := by dsimp only [dats]
/-- After the body at a point, window 5's buffer holds the dequantised row codes of the point's tile. -/
theorem after0_5 (c : Dev nD) (t : Fin cfg0.N) : (dats m 0 c).after 5 t = qRowDeq (tileAt m c t) := by dsimp only [dats]
/-- After the body at a point, window 6's buffer holds the dequantised column codes of the point's tile. -/
theorem after0_6 (c : Dev nD) (t : Fin cfg0.N) : (dats m 0 c).after 6 t = qColDeq (tileAt m c t) := by dsimp only [dats]

/-- The input's staging buffer holds its block at every point. -/
theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  icases HS0 with ⟨%dS, HS0⟩
  unfold owns
  icases HS0 with ⟨%f8, -, HS0⟩
  icases H4 with ⟨%f5, -, H4⟩
  iapply ((kernelRun c (grid0.coords t) _ _ _ _ _ _ _ _ _ _ _ _ _ _ _ _ (iblk m c 0 t) f5 f8).2.2.2.2.2.2.2 Set.univ _)
  isplitl [H0]; · unfold owns; iexact H0
  isplitl [H1]; · iexists _; unfold owns; iexact H1
  isplitl [H2]; · iexists _; unfold owns; iexact H2
  isplitl [H3]; · iexists _; unfold owns; iexact H3
  isplitl [H4]; · iexact H4
  isplitl [H5]; · iexists _; unfold owns; iexact H5
  isplitl [H6]; · iexists _; unfold owns; iexact H6
  isplitl [HS0]; · iexact HS0
  iintro ⟨H0, ⟨%e1, H1⟩, ⟨%e2, H2⟩, ⟨%e3, H3⟩, H4, ⟨%e5, H5⟩, ⟨%e6, H6⟩, HS0⟩
  isplitl [HS0 Hg]
  · isplitl [HS0]
    · iexists _; iexists _; isplitr
      swap; · iexact HS0
      ipureintro; rfl
    iexact Hg
  isplitl [Ho]; · iexact Ho
  isplitl [H0]; · unfold owns; iexact H0
  isplitl [H1]
  · iexists _; isplitr
    swap; · iexact H1
    ipureintro
    exact (View.read_writes_of_cover _ _ VO1 VO1.junk _ (cover1 c _ _ _ _ _ _ _ _ _ _ _ _ _ _ _ _ _ _ _ _)).trans (out1_spec c _ _ _ _ _ _ _ _ _ _ _ _ _ _ _ _ _ _ _ _)
  isplitl [H2]
  · iexists _; isplitr
    swap; · iexact H2
    ipureintro
    exact (View.read_writes_of_cover _ _ VO2 VO2.junk _ (cover2 c _ _ _ _ _ _ _ _ _ _ _ _ _ _ _ _ _ _ _ _)).trans (out2_spec c _ _ _ _ _ _ _ _ _ _ _ _ _ _ _ _ _ _ _ _)
  isplitl [H3]
  · iexists _; isplitr
    swap; · iexact H3
    ipureintro
    exact (View.read_writes_of_cover _ _ VO3 VO3.junk _ (cover3 c _ _ _ _ _ _ _ _ _ _ _ _ _ _ _ _ _ _ _ _)).trans (out3_spec c _ _ _ _ _ _ _ _ _ _ _ _ _ _ _ _ _ _ _ _)
  isplitl [H4]
  · iexists _; isplitr
    swap; · iexact H4
    ipureintro
    exact (View.read_writes_of_cover _ _ VO4 VO4.junk _ (cover4 c _ _ _ _ _ _ _ _ _ _ _ _ _ _ _ _ _ _ _ _)).trans (out4_spec c _ _ _ _ _ _ _ _ _ _ _ _ _ _ _ _ _ _ _ _)
  isplitl [H5]
  · iexists _; isplitr
    swap; · iexact H5
    ipureintro
    exact (View.read_writes_of_cover _ _ VO5 VO5.junk _ (cover5 c _ _ _ _ _ _ _ _ _ _ _ _ _ _ _ _ _ _ _ _)).trans (out5_spec c _ _ _ _ _ _ _ _ _ _ _ _ _ _ _ _ _ _ _ _)
  iexists _; isplitr
  swap; · iexact H6
  ipureintro
  exact (View.read_writes_of_cover _ _ VO6 VO6.junk _ (cover6 c _ _ _ _ _ _ _ _ _ _ _ _ _ _ _ _ _ _ _ _)).trans (out6_spec c _ _ _ _ _ _ _ _ _ _ _ _ _ _ _ _ _ _ _ _)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- The frame: the call terminates, its argument ends unchanged, the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0
    (Pipeline.mem_restRefs_of main_arg0 (by decide) (by decide))).trans (V_main_arg0 m c), h.2⟩) (run_main_quiescent m ρ)

end Cert.QuantIdeal.Hand

end
-- ==== Proof.QuantIdealValue.lean ====
module

public import proofs.«01_k».proof.Proof.QuantIdealFrame

@[expose] public section

set_option maxRecDepth 16384

noncomputable section

namespace Cert.QuantIdeal.Hand

open Cert.QuantIdeal Cert.QuantIdeal.Gen Idealize.ShloMosaic Idealize.ShloMosaic.TcCoe Idealize.SL.Sem Cert.Scale
open Idealize.ShloMosaic.Pipeline (Dat)

variable (m : (ℓ : Loc nD τ sig) → Buf (Elt Ideal) ℓ) (ρ : Dev nD → PrngReg)

/-- The argument dy. -/
abbrev DY (c : Dev nD) : FVec Ideal S3x2048x4608 .bf16 := m ((c : Thread nD τ).loc main_arg0)

/-- The windows' index maps in the point's number. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0, 0]
    ∧ win0_5.index t = ![t.val, 0] ∧ win0_6.index t = ![t.val, 0] :=
  (by decide +kernel : ∀ t : Fin grid0.N, _)

/-- The tile at point `t`: rows `256 t + …` of dy, the sequences one below the other. -/
theorem tile_blk (c : Dev nD) (t : Fin cfg0.N) (r : Fin 256) (n : Fin 4608) (q : Fin 6144) (hq : q.val = t.val * 256 + r.val) :
    tileAt m c t (ix2 r n) = DY m c (ix3 ⟨q.val / 2048, by omega⟩ ⟨q.val % 2048, by omega⟩ n) := by
  show (show FVec Ideal S256x4608 .bf16 from iblk m c 0 t) (ix2 r n) = _
  blk_point [iblk, V, idx t]

/-- The scale byte of row block `q` of row `t`. -/
def rowByteG (v : FVec Ideal S3x2048x4608 .bf16) (t : Fin 6144) (q : Fin 144) : BitVec 32 :=
  byteOf (amx fun k : Fin 32 => v (ix3 ⟨t.val / 2048, by omega⟩ ⟨t.val % 2048, by omega⟩ ⟨32 * q.val + k.val, by omega⟩))

/-- The scale byte of column block `g` (of all 192) of column `n`. -/
def colByteG (v : FVec Ideal S3x2048x4608 .bf16) (g : Fin 192) (n : Fin 4608) : BitVec 32 :=
  byteOf (amx fun k : Fin 32 => v (ix3 ⟨g.val / 64, by omega⟩ ⟨32 * (g.val % 64) + k.val, by omega⟩ n))

/-- The row scale byte of a tile is that of its row of dy. -/
theorem rowB_tile (c : Dev nD) (t : Fin cfg0.N) (r : Fin 256) (q : Fin 6144) (hq : q.val = t.val * 256 + r.val) (b : Fin 144) :
    rowB (tileAt m c t) r b = rowByteG (DY m c) q b := by
  unfold rowB rowMax rowByteG
  refine congrArg byteOf (congrArg amx (funext fun k => ?_))
  exact tile_blk m c t r _ q hq

/-- The column scale byte of a tile is that of its column block of dy. -/
theorem colB_tile (c : Dev nD) (t : Fin cfg0.N) (g : Fin 8) (G : Fin 192) (hG : G.val = t.val * 8 + g.val) (n : Fin 4608) :
    colB (tileAt m c t) g n = colByteG (DY m c) G n := by
  unfold colB colMax colByteG
  refine congrArg byteOf (congrArg amx (funext fun k => ?_))
  have ht : t.val < 24 := t.isLt
  refine (tile_blk m c t _ n ⟨G.val * 32 + k.val, by omega⟩ (by show G.val * 32 + k.val = t.val * 256 + (32 * g.val + k.val); omega)).trans ?_
  exact congrArg (DY m c) (congrArg₂ (fun a b => ix3 a b n) (Fin.ext (by show (G.val * 32 + k.val) / 2048 = G.val / 64; omega))
    (Fin.ext (by show (G.val * 32 + k.val) % 2048 = 32 * (G.val % 64) + k.val; omega)))

/-- The row codes of all of dy. -/
def RC (v : FVec Ideal S3x2048x4608 .bf16) : FVec Ideal S6144x4608 .fp8e4m3 := fun y =>
  codeOf (v (ix3 ⟨(y 0).val / 2048, by have := (y 0).isLt; simp at this; omega⟩ ⟨(y 0).val % 2048, by omega⟩ (y 1)))
    (rowByteG v (y 0) ⟨(y 1).val / 32, by have := (y 1).isLt; simp at this; omega⟩)

/-- The row scale bytes. -/
def RS (v : FVec Ideal S3x2048x4608 .bf16) : IVec S6144x144 8 := fun y => (rowByteG v (y 0) (y 1)).setWidth 8

/-- The column codes. -/
def CC (v : FVec Ideal S3x2048x4608 .bf16) : FVec Ideal S6144x4608 .fp8e4m3 := fun y =>
  codeOf (v (ix3 ⟨(y 0).val / 2048, by have := (y 0).isLt; simp at this; omega⟩ ⟨(y 0).val % 2048, by omega⟩ (y 1)))
    (colByteG v ⟨(y 0).val / 32, by have := (y 0).isLt; simp at this; omega⟩ (y 1))

/-- The column scale bytes, eight groups of 32 rows to a tile. -/
def CS (v : FVec Ideal S3x2048x4608 .bf16) : IVec S24x8x4608 8 := fun y =>
  (colByteG v ⟨(y 0).val * 8 + (y 1).val, by have := (y 0).isLt; have := (y 1).isLt; simp at *; omega⟩ (y 2)).setWidth 8

/-- The dequantised row codes. -/
def RD (v : FVec Ideal S3x2048x4608 .bf16) : FVec Ideal S6144x4608 .bf16 := fun y =>
  RC v y * pw (rowByteG v (y 0) ⟨(y 1).val / 32, by have := (y 1).isLt; simp at this; omega⟩)

/-- The dequantised column codes. -/
def CD (v : FVec Ideal S3x2048x4608 .bf16) : FVec Ideal S6144x4608 .bf16 := fun y =>
  CC v y * pw (colByteG v ⟨(y 0).val / 32, by have := (y 0).isLt; simp at this; omega⟩ (y 1))

/-- The row codes of a tile are those of its rows of dy. -/
theorem rowCodes_tile (c : Dev nD) (t : Fin cfg0.N) (r : Fin 256) (q : Fin 6144) (hq : q.val = t.val * 256 + r.val) (n : Fin 4608) :
    qRowCodes (tileAt m c t) (ix2 r n) = RC (DY m c) (ix2 q n) :=
  congrArg₂ codeOf (tile_blk m c t r n q hq) (rowB_tile m c t r q hq _)

/-- The row scale bytes of a tile are those of its rows of dy. -/
theorem rowScales_tile (c : Dev nD) (t : Fin cfg0.N) (r : Fin 256) (q : Fin 6144) (hq : q.val = t.val * 256 + r.val) (b : Fin 144) :
    qRowScales (tileAt m c t) (ix2 r b) = RS (DY m c) (ix2 q b) :=
  congrArg (BitVec.setWidth 8) (rowB_tile m c t r q hq b)

/-- The dequantised row codes of a tile are those of its rows of dy. -/
theorem rowDeq_tile (c : Dev nD) (t : Fin cfg0.N) (r : Fin 256) (q : Fin 6144) (hq : q.val = t.val * 256 + r.val) (n : Fin 4608) :
    qRowDeq (tileAt m c t) (ix2 r n) = RD (DY m c) (ix2 q n) :=
  congrArg₂ (fun a b => a * pw b) (rowCodes_tile m c t r q hq n) (rowB_tile m c t r q hq _)

/-- The column codes of a tile are those of its rows of dy. -/
theorem colCodes_tile (c : Dev nD) (t : Fin cfg0.N) (r : Fin 256) (q : Fin 6144) (hq : q.val = t.val * 256 + r.val) (n : Fin 4608) :
    qColCodes (tileAt m c t) (ix2 r n) = CC (DY m c) (ix2 q n) :=
  congrArg₂ codeOf (tile_blk m c t r n q hq) (colB_tile m c t ⟨r.val / 32, by omega⟩ _ (by show q.val / 32 = t.val * 8 + r.val / 32; omega) n)

/-- The column scale bytes of a tile are those of its eight row groups of dy. -/
theorem colScales_tile (c : Dev nD) (t : Fin cfg0.N) (T : Fin 24) (hT : T.val = t.val) (g : Fin 8) (n : Fin 4608) :
    qColScales (tileAt m c t) (ix3 0 g n) = CS (DY m c) (ix3 T g n) :=
  congrArg (BitVec.setWidth 8) (colB_tile m c t g _ (by show T.val * 8 + g.val = t.val * 8 + g.val; omega) n)

/-- The dequantised column codes of a tile are those of its rows of dy. -/
theorem colDeq_tile (c : Dev nD) (t : Fin cfg0.N) (r : Fin 256) (q : Fin 6144) (hq : q.val = t.val * 256 + r.val) (n : Fin 4608) :
    qColDeq (tileAt m c t) (ix2 r n) = CD (DY m c) (ix2 q n) :=
  congrArg₂ (fun a b => a * pw b) (colCodes_tile m c t r q hq n)
    (colB_tile m c t ⟨r.val / 32, by omega⟩ _ (by show q.val / 32 = t.val * 8 + r.val / 32; omega) n)

/-- An index of a matrix from its first coordinate and the value of its second. -/
theorem ix2_of {a b : ℕ} (i : (⟨2, ![a, b]⟩ : Shape).Idx) (n : Fin b) (h : (i 1).val = n.val) : @ix2 a b (i 0) n = i := by
  funext k
  match k with
  | ⟨0, _⟩ => rfl
  | ⟨1, _⟩ => exact Fin.ext h.symm

/-- An index of a rank-3 array from its first coordinate and the values of the others. -/
theorem ix3_of {a b c : ℕ} (i : (⟨3, ![a, b, c]⟩ : Shape).Idx) (g : Fin b) (n : Fin c) (h : (i 1).val = g.val) (h' : (i 2).val = n.val) :
    @ix3 a b c (i 0) g n = i := by
  funext k
  match k with
  | ⟨0, _⟩ => rfl
  | ⟨1, _⟩ => exact Fin.ext h.symm
  | ⟨2, _⟩ => exact Fin.ext h'.symm

/-- The array of the row codes after the run. -/
theorem final1 (c : Dev nD) : (dats m 0 c).arrAt 1 cfg0.N = RC (DY m c) := by
  refine (dats m 0 c).arrAt_eq_of_covers 1 _ (by decide +kernel) fun t _ y => ?_
  blk_simp
  rw [after0_1]
  idx_vars y
  refine (rowCodes_tile m c t y0 _ ?_ y1).trans (congrArg (RC (DY m c)) (ix2_of (a := 6144) (b := 4608) _ y1 ?_))
  · blk_simp [idx t]
  · blk_simp [idx t]

/-- The array of the row scale bytes after the run. -/
theorem final2 (c : Dev nD) : (dats m 0 c).arrAt 2 cfg0.N = RS (DY m c) := by
  refine (dats m 0 c).arrAt_eq_of_covers 2 _ (by decide +kernel) fun t _ y => ?_
  blk_simp
  rw [after0_2]
  idx_vars y
  refine (rowScales_tile m c t y0 _ ?_ y1).trans (congrArg (RS (DY m c)) (ix2_of (a := 6144) (b := 144) _ y1 ?_))
  · blk_simp [idx t]
  · blk_simp [idx t]

/-- The array of the column codes after the run. -/
theorem final3 (c : Dev nD) : (dats m 0 c).arrAt 3 cfg0.N = CC (DY m c) := by
  refine (dats m 0 c).arrAt_eq_of_covers 3 _ (by decide +kernel) fun t _ y => ?_
  blk_simp
  rw [after0_3]
  idx_vars y
  refine (colCodes_tile m c t y0 _ ?_ y1).trans (congrArg (CC (DY m c)) (ix2_of (a := 6144) (b := 4608) _ y1 ?_))
  · blk_simp [idx t]
  · blk_simp [idx t]

/-- The array of the column scale bytes after the run. -/
theorem final4 (c : Dev nD) : (dats m 0 c).arrAt 4 cfg0.N = CS (DY m c) := by
  refine (dats m 0 c).arrAt_eq_of_covers 4 _ (by decide +kernel) fun t _ y => ?_
  blk_simp
  rw [after0_4]
  idx_vars y
  have e0 : y0 = 0 := Subsingleton.elim _ _
  subst e0
  refine (colScales_tile m c t _ ?_ y1 y2).trans (congrArg (CS (DY m c)) (ix3_of (a := 24) (b := 8) (c := 4608) _ y1 y2 ?_ ?_))
  · blk_simp [idx t]
    exact Nat.add_zero _
  · blk_simp [idx t]
  · blk_simp [idx t]

/-- The array of the dequantised row codes after the run. -/
theorem final5 (c : Dev nD) : (dats m 0 c).arrAt 5 cfg0.N = RD (DY m c) := by
  refine (dats m 0 c).arrAt_eq_of_covers 5 _ (by decide +kernel) fun t _ y => ?_
  blk_simp
  rw [after0_5]
  idx_vars y
  refine (rowDeq_tile m c t y0 _ ?_ y1).trans (congrArg (RD (DY m c)) (ix2_of (a := 6144) (b := 4608) _ y1 ?_))
  · blk_simp [idx t]
  · blk_simp [idx t]

/-- The array of the dequantised column codes after the run. -/
theorem final6 (c : Dev nD) : (dats m 0 c).arrAt 6 cfg0.N = CD (DY m c) := by
  refine (dats m 0 c).arrAt_eq_of_covers 6 _ (by decide +kernel) fun t _ y => ?_
  blk_simp
  rw [after0_6]
  idx_vars y
  refine (colDeq_tile m c t y0 _ ?_ y1).trans (congrArg (CD (DY m c)) (ix2_of (a := 6144) (b := 4608) _ y1 ?_))
  · blk_simp [idx t]
  · blk_simp [idx t]

/-- The argument is as launched. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The kernel runs, its six result arrays end as the functions of dy above, and dy ends unchanged. -/
theorem run_values : θ_run defs (onTc (τ := τ) (main (F := Ideal))) ⟨m, fun _ => 0, ρ⟩ fun r => ∀ c : Dev nD,
      r.2.mem ((c : Thread nD τ).loc main_v1_0) = RC (DY m c)
      ∧ r.2.mem ((c : Thread nD τ).loc main_v1_1) = RS (DY m c)
      ∧ r.2.mem ((c : Thread nD τ).loc main_v1_2) = CC (DY m c)
      ∧ r.2.mem ((c : Thread nD τ).loc main_v1_3) = CS (DY m c)
      ∧ r.2.mem ((c : Thread nD τ).loc main_v1_4) = RD (DY m c)
      ∧ r.2.mem ((c : Thread nD τ).loc main_v1_5) = CD (DY m c)
      ∧ r.2.mem ((c : Thread nD τ).loc main_arg0) = m ((c : Thread nD τ).loc main_arg0) :=
  (θ_run defs _ _).mono (fun r h c => ⟨((h c).1 1).trans (final1 m c), ((h c).1 2).trans (final2 m c),
      ((h c).1 3).trans (final3 m c), ((h c).1 4).trans (final4 m c), ((h c).1 5).trans (final5 m c),
      ((h c).1 6).trans (final6 m c), kept_main_arg0 m r h c⟩)
    (run_main m ρ)

end Cert.QuantIdeal.Hand

end
-- ==== Proof.QuantScale.lean ====
module

public import proofs.«01_k».proof.Proof.QuantTile
public import Idealize.ShloMosaic.Lib.WordSum

@[expose] public section

set_option maxRecDepth 16384

noncomputable section

namespace Cert.QuantScale

open Idealize.ShloMosaic Cert.Scale Cert.QuantIdeal.Hand

/-- The reference's test of the power of two number `k` of its table (two to the power `k` less 126) against `x`. -/
def tick (x : EReal) (k : Fin 254) : BitVec 32 :=
  Scalar.select (FloatOps.cmpf (F := Ideal) (φ := .f32) .ole
    (FloatOps.exp2 (F := Ideal) (φ := .f32) (FloatOps.sitofp .f32 (IntOp.subi (BitVec.ofNat 32 k.val) 126#32))) x) 1#32 0#32

/-- The reference's count of the powers of two that do not exceed `x`. -/
def count (x : EReal) : BitVec 32 := ∑ k : Fin 254, tick x k

/-- The reference's exponent of a number: zero where no power counts, else the count less 126. -/
def refExp (x : EReal) : BitVec 32 := Scalar.select (IntOp.cmpi .eq (count x) 0#32) 0#32 (IntOp.subi (count x) 126#32)

/-- The reference's power of two with the exponent `e`: zero below −126, infinity above 127. -/
def refLd (e : BitVec 32) : EReal :=
  Scalar.select (IntOp.cmpi .slt e 4294967170#32) (0 : EReal)
    (Scalar.select (IntOp.cmpi .sgt e 127#32) (Ideal.ofBits .f32 0x7F800000#32) (Ideal.exp2 ((e.toInt : ℝ) : EReal)))

/-- The powers of two grow with the exponent field. -/
theorem pow2_mono (a b : BitVec 8) (h : a.toNat ≤ b.toNat) : pow2 a ≤ pow2 b := by
  rw [pow2_eq, pow2_eq]
  have hb := b.isLt
  by_cases h255 : b.toNat = 255
  · rw [if_pos h255]; exact le_top
  rw [if_neg h255, if_neg (by omega)]
  by_cases h0 : a.toNat = 0
  · rw [if_pos h0]
    split
    · exact le_refl _
    · exact EReal.coe_nonneg.2 (by positivity)
  · rw [if_neg h0, if_neg (by omega)]
    exact EReal.coe_le_coe_iff.2 (zpow_le_zpow_right₀ (by norm_num) (by omega))

/-- The number of the exponent field `k`. -/
def pwn (k : ℕ) : EReal := pow2 (BitVec.ofNat 8 k)

/-- A larger exponent field has no smaller a number. -/
theorem pwn_mono (a b : ℕ) (h : a ≤ b) (hb : b < 256) : pwn a ≤ pwn b :=
  pow2_mono _ _ (by simp only [BitVec.toNat_ofNat]; omega)

/-- The largest exponent field, of those to 253, whose number does not exceed `x`. -/
theorem exists_field (x : EReal) (h0 : 0 ≤ x) (h1 : x < pwn 254) :
    ∃ K : Fin 254, ∀ c : ℕ, c < 256 → (pwn c ≤ x ↔ c ≤ K.val) := by
  classical
  refine ⟨⟨Nat.findGreatest (fun k => pwn k ≤ x) 253, Nat.lt_succ_of_le (Nat.findGreatest_le 253)⟩, fun c hc => ⟨fun h => ?_, fun h => ?_⟩⟩
  · by_contra hlt
    by_cases h3 : c ≤ 253
    · exact Nat.findGreatest_is_greatest (P := fun k => pwn k ≤ x) (not_le.1 hlt) h3 h
    · exact absurd (lt_of_lt_of_le h1 (pwn_mono 254 c (by omega) hc)) (not_lt.2 h)
  · refine (pwn_mono _ _ h (by have := Nat.findGreatest_le (P := fun k => pwn k ≤ x) 253; omega)).trans ?_
    have : pwn 0 ≤ x := by
      unfold pwn
      rw [pow2_eq]
      simpa using h0
    exact Nat.findGreatest_spec (P := fun k => pwn k ≤ x) (Nat.zero_le 253) this

/-- The kernel's search with the comparisons replaced by those of the field with the candidates. -/
def search (K : ℕ) : BitVec 32 :=
  let step (be b : BitVec 32) : BitVec 32 := if K < (be ||| b).toNat then be else be ||| b
  step (step (step (step (step (step (step (step 0#32 128#32) 64#32) 32#32) 16#32) 8#32) 4#32) 2#32) 1#32

/-- A search that knows the field `K` finds `K`. -/
theorem search_eq : ∀ K : Fin 254, search K.val = BitVec.ofNat 32 K.val := by decide +kernel

/-- The number of a word's exponent field, for a word below 256. -/
theorem pw_eq (b : BitVec 32) (h : b.toNat < 256) : pw b = pwn b.toNat := by
  unfold pw pwn pow2
  congr 2
  apply BitVec.eq_of_toNat_eq
  simp
  omega

/-- One step of the kernel's search compares the candidate with the field `K`. -/
theorem bit_eq (x : EReal) (K : Fin 254) (hK : ∀ c : ℕ, c < 256 → (pwn c ≤ x ↔ c ≤ K.val)) (be b : BitVec 32)
    (h : (be ||| b).toNat < 256) : bit x be b = if K.val < (be ||| b).toNat then be else be ||| b := by
  unfold bit
  rw [pw_eq _ h]
  show Scalar.select (BitVec.ofBool (decide (x < pwn (be ||| b).toNat))) be (be ||| b) = _
  have := hK _ h
  generalize hw : be ||| b = w at *
  by_cases hx : x < pwn w.toNat
  · rw [if_pos (by rw [← not_le] at hx; rw [this] at hx; omega)]
    simp [Scalar.select, hx]
  · rw [if_neg (by rw [not_lt, this] at hx; omega)]
    simp [Scalar.select, hx]

/-- The kernel's search finds the field `K`. -/
theorem field_eq (x : EReal) (K : Fin 254) (hK : ∀ c : ℕ, c < 256 → (pwn c ≤ x ↔ c ≤ K.val)) :
    field x = BitVec.ofNat 32 K.val := by
  have small : ∀ be b : BitVec 32, be.toNat < 256 → b.toNat < 256 → (be ||| b).toNat < 256 := by
    intro be b h1 h2
    rw [BitVec.toNat_or]
    exact Nat.or_lt_two_pow (n := 8) h1 h2
  have step : ∀ be b : BitVec 32, be.toNat < 256 → b.toNat < 256 →
      bit x be b = (if K.val < (be ||| b).toNat then be else be ||| b) ∧ (bit x be b).toNat < 256 := by
    intro be b h1 h2
    have h := bit_eq x K hK be b (small be b h1 h2)
    refine ⟨h, ?_⟩
    rw [h]
    split
    · exact h1
    · exact small be b h1 h2
  rw [← search_eq]
  unfold field search
  have s1 := step 0#32 128#32 (by decide) (by decide)
  have s2 := step _ 64#32 s1.2 (by decide)
  have s3 := step _ 32#32 s2.2 (by decide)
  have s4 := step _ 16#32 s3.2 (by decide)
  have s5 := step _ 8#32 s4.2 (by decide)
  have s6 := step _ 4#32 s5.2 (by decide)
  have s7 := step _ 2#32 s6.2 (by decide)
  have s8 := step _ 1#32 s7.2 (by decide)
  rw [s8.1, s7.1, s6.1, s5.1, s4.1, s3.1, s2.1, s1.1]

/-- Power `k` of the reference's table is the number of the exponent field `k + 1`. -/
theorem table_eq (k : Fin 254) :
    FloatOps.exp2 (F := Ideal) (φ := .f32) (FloatOps.sitofp .f32 (IntOp.subi (BitVec.ofNat 32 k.val) 126#32)) = pwn (k.val + 1) := by
  have h : ∀ k : Fin 254, (BitVec.ofNat 32 k.val - 126#32).toInt = (k.val : ℤ) - 126 := by decide +kernel
  show Ideal.exp2 (((BitVec.ofNat 32 k.val - 126#32).toInt : ℝ) : EReal) = _
  unfold pwn
  rw [h, Ideal.exp2_coe, pow2_eq]
  have hk : (BitVec.ofNat 8 (k.val + 1)).toNat = k.val + 1 := by rw [BitVec.toNat_ofNat]; omega
  rw [hk, if_neg (by omega), if_neg (by omega)]
  refine congrArg Real.toEReal ((Real.rpow_intCast 2 _).trans (congrArg (fun z : ℤ => (2 : ℝ) ^ z) ?_))
  push_cast
  ring

/-- The reference's count is the field `K`. -/
theorem count_eq (x : EReal) (K : Fin 254) (hK : ∀ c : ℕ, c < 256 → (pwn c ≤ x ↔ c ≤ K.val)) :
    count x = BitVec.ofNat 32 K.val := by
  have h : ∀ k : Fin 254, tick x k = if k.val < K.val then 1#32 else 0#32 := by
    intro k
    unfold tick
    rw [table_eq]
    show Scalar.select (BitVec.ofBool (decide (pwn (k.val + 1) ≤ x))) 1#32 0#32 = _
    have := hK (k.val + 1) (by omega)
    by_cases hx : pwn (k.val + 1) ≤ x
    · rw [if_pos (by rw [this] at hx; omega)]
      simp [Scalar.select, hx]
    · rw [if_neg (by rw [this] at hx; omega)]
      simp [Scalar.select, hx]
  unfold count
  rw [Finset.sum_congr rfl fun k _ => h k, Finset.sum_ite, Finset.sum_const, show (0#32 : BitVec 32) = 0 from rfl, Finset.sum_const_zero, add_zero]
  have hc : (Finset.univ.filter fun k : Fin 254 => k.val < K.val).card = K.val := by
    rw [Fin.card_filter_val_lt]
    omega
  rw [hc]
  apply BitVec.eq_of_toNat_eq
  simp

/-- A number that is not negative and below two to the power 127. -/
def Ok (x : EReal) : Prop := 0 ≤ x ∧ x < pwn 254

/-- What the kernel's search and the reference's count come to, for every exponent field. -/
theorem words' : ∀ K : Fin 254,
    Scalar.select (IntOp.cmpi .eq (BitVec.ofNat 32 K.val) 0#32) 127#32 (IntOp.addi (BitVec.ofNat 32 K.val) 1#32)
      = Scalar.select (IntOp.cmpi .eq (BitVec.ofNat 32 K.val) 0#32) 0#32 (IntOp.subi (BitVec.ofNat 32 K.val) 126#32) + 127#32
    ∧ 1 ≤ (Scalar.select (IntOp.cmpi .eq (BitVec.ofNat 32 K.val) 0#32) 127#32 (IntOp.addi (BitVec.ofNat 32 K.val) 1#32)).toNat
    ∧ (Scalar.select (IntOp.cmpi .eq (BitVec.ofNat 32 K.val) 0#32) 127#32 (IntOp.addi (BitVec.ofNat 32 K.val) 1#32)).toNat ≤ 254 := by
  decide +kernel

/-- The kernel's scale byte is the reference's exponent plus 127, and lies between 1 and 254. -/
theorem byte_eq (x : EReal) (h : Ok x) : byteOf' x = refExp x + 127#32 ∧ 1 ≤ (byteOf' x).toNat ∧ (byteOf' x).toNat ≤ 254 := by
  obtain ⟨K, hK⟩ := exists_field x h.1 h.2
  unfold byteOf' refExp
  rw [field_eq x K hK, count_eq x K hK]
  exact words' K

/-- The kernel's number of a byte is the reference's power of two of the byte less 127. -/
theorem pw_refLd (b : BitVec 32) (h : b.toNat < 256) : pw b = refLd (b - 127#32) := by
  have hb : b = (b.setWidth 8).setWidth 32 := by
    apply BitVec.eq_of_toNat_eq
    simp
    omega
  rw [hb]
  exact (refPow2_eq (b.setWidth 8)).symm

/-- The kernel's multiplier is the reference's power of two of minus the exponent. -/
theorem inverse_eq (x : EReal) (h : Ok x) : pw (254#32 - byteOf' x) = refLd (0#32 - refExp x) := by
  obtain ⟨h1, h2, h3⟩ := byte_eq x h
  generalize byteOf' x = b at *
  generalize refExp x = e at *
  refine (pw_refLd _ ?_).trans (congrArg refLd ?_)
  · rw [BitVec.toNat_sub]
    simp
    omega
  · rw [h1]
    apply BitVec.eq_of_toNat_eq
    simp only [BitVec.toNat_sub, BitVec.toNat_add, BitVec.toNat_ofNat]
    have := e.isLt
    omega

/-- The kernel's number of the scale byte is the number of the reference's byte. -/
theorem decode_eq (x : EReal) (h : Ok x) : pw (byteOf' x) = pow2 ((refExp x + 127#32).setWidth 8) := by
  obtain ⟨h1, h2, h3⟩ := byte_eq x h
  rw [← h1]
  generalize byteOf' x = b at *
  have hb : b = (b.setWidth 8).setWidth 32 := by
    apply BitVec.eq_of_toNat_eq
    simp
    omega
  unfold pw pow2
  exact congrArg (fun z : BitVec 32 => Ideal.ofBits .f32 (z <<< 23)) hb

/-- The bound of the precondition: the largest finite bfloat16 number. -/
theorem bound_eq : Ideal.ofBits .bf16 0x7F7F#16 = (((255 : ℝ) * (2 : ℝ) ^ (120 : ℤ) : ℝ) : EReal) := by
  have h1 : ((0x7F7F#16).extractLsb' (8 + 7) 1 == 1#1) = false := by decide
  have h2 : ((0x7F7F#16).extractLsb' 7 8).toNat = 254 := by decide
  have h3 : ((0x7F7F#16).extractLsb' 0 7).toNat = 127 := by decide
  show Ideal.ieee 8 7 (0x7F7F#16) = _
  unfold Ideal.ieee
  simp only [h1, h2, h3]
  norm_num

/-- The binary32 number nearest 1/448 is at least zero and at most a quarter. -/
theorem factor_eq : ∃ r : ℝ, Ideal.ofBits .f32 0x3B124925#32 = (r : EReal) ∧ 0 ≤ r ∧ r ≤ 1 / 4 := by
  have h1 : ((0x3B124925#32).extractLsb' (8 + 23) 1 == 1#1) = false := by decide
  have h2 : ((0x3B124925#32).extractLsb' 23 8).toNat = 118 := by decide
  have h3 : ((0x3B124925#32).extractLsb' 0 23).toNat = 1198373 := by decide
  refine ⟨9586981 * (2 : ℝ) ^ (-32 : ℤ), ?_, by positivity, by norm_num⟩
  show Ideal.ieee 8 23 (0x3B124925#32) = _
  unfold Ideal.ieee
  simp only [h1, h2, h3]
  norm_num

/-- A block whose entries are all finite has a number the exponent search is right for. -/
theorem ok_amx (f : Fin 32 → EReal) (h : ∀ k, FloatOps.absf (F := Ideal) (φ := .bf16) (f k) ≤ Ideal.ofBits .bf16 0x7F7F#16) :
    Ok (amx f * Ideal.ofBits .f32 0x3B124925#32) := by
  have h0 : 0 ≤ amx f := by
    unfold amx
    refine le_trans ?_ ((Finset.le_fold_max _).2 (Or.inr ⟨0, Finset.mem_univ _, le_refl _⟩))
    show 0 ≤ max (f 0) (-(f 0))
    rcases le_total 0 (f 0) with h | h
    · exact h.trans (le_max_left _ _)
    · exact (EReal.neg_nonneg.2 h).trans (le_max_right _ _)
  have h1 : amx f ≤ Ideal.ofBits .bf16 0x7F7F#16 := by
    unfold amx
    exact (Finset.fold_max_le _).2 ⟨bot_le, fun k _ => h k⟩
  rw [bound_eq] at h1
  obtain ⟨r, hr, hr0, hr1⟩ := factor_eq
  rw [hr]
  generalize amx f = a at *
  induction a with
  | bot => exact absurd h0 (by simp)
  | top => exact absurd (top_le_iff.1 h1) (EReal.coe_ne_top _)
  | coe a =>
    have ha0 : 0 ≤ a := EReal.coe_nonneg.1 h0
    have ha1 := EReal.coe_le_coe_iff.1 h1
    refine ⟨?_, ?_⟩
    · rw [← EReal.coe_mul]
      exact EReal.coe_nonneg.2 (mul_nonneg ha0 hr0)
    · unfold pwn
      rw [pow2_eq, if_neg (by decide), if_neg (by decide), ← EReal.coe_mul]
      refine EReal.coe_lt_coe_iff.2 (lt_of_le_of_lt (mul_le_mul ha1 hr1 hr0 (by positivity)) ?_)
      norm_num

end Cert.QuantScale

end
-- ==== Proof.QuantRefValue.lean ====
module

public import proofs.«01_k».proof.Proof.QuantScale
public import proofs.«01_k».proof.Proof.Gen.QuantRefIdeal.Value

@[expose] public section

set_option maxRecDepth 16384

noncomputable section

namespace Cert.QuantRefIdeal.Value

open Cert.QuantRefIdeal Cert.QuantRefIdeal.Gen Idealize.ShloMosaic Idealize.ShloMosaic.TcCoe Idealize.SL.Sem Cert.Scale Cert.QuantScale
open Cert.QuantIdeal.Hand (amx negInf32)

/-- The body's load reads the whole argument. -/
theorem ld_all (v : Vec Ideal S3x2048x4608 .bf16) : View.ld v r0_0 = v := by
  funext i
  idx_vars i
  pointwise

/-- The reference's power of two of every entry of a vector of exponents. -/
def vld {s : Shape} (e : IVec s 32) : FVec Ideal s .f32 :=
  select (cmpi .slt e (broadcast s 4294967170#32)) (broadcast s (Scalar.ofBits (F := Ideal) .f32 0x00000000#32))
    (select (cmpi .sgt e (broadcast s 127#32)) (broadcast s (Scalar.ofBits (F := Ideal) .f32 0x7F800000#32)) (exp2 (sitofp .f32 e)))

/-- The binary32 word of zero. -/
theorem zero32 : Ideal.ofBits .f32 0x00000000#32 = (0 : EReal) := by
  show Ideal.ieee 8 23 (0x00000000#32) = 0
  unfold Ideal.ieee
  simp

/-- The power of two of an entry. -/
theorem vld_apply {s : Shape} (e : IVec s 32) (i : s.Idx) : vld e i = refLd (e i) := by
  unfold refLd
  rw [← zero32]
  rfl

/-! ### The exponents of the row blocks -/

/-- The largest magnitude of each row block. -/
def rowM (w : FVec Ideal S3x2048x144x32 .f32) : FVec Ideal S3x2048x144 .f32 :=
  multiReduction .maximumf [3] S3x2048x144 (absf w) 0xFF800000#32 reduces_S3x2048x144x32_S3x2048x144 (.inl rfl) rfl

/-- A row block's largest magnitude, entry by entry. -/
theorem rowM_apply (w : FVec Ideal S3x2048x144x32 .f32) (b : Fin 3) (s : Fin 2048) (q : Fin 144) :
    rowM w (ix3 b s q) = amx fun k : Fin 32 => w (ix4 b s q k) := by
  pointwise [rowM]
  rw [negInf32]
  rfl

/-- Entry `k` of row block `q` is column `32 q + k`. -/
theorem pay8_apply (v : FVec Ideal S3x2048x4608 .bf16) (b : Fin 3) (s : Fin 2048) (q : Fin 144) (k : Fin 32) :
    k0_pay8 (F := Ideal) v (ix4 b s q k) = v (ix3 b s ⟨32 * q.val + k.val, by omega⟩) := by
  pointwise [k0_pay8, k0_pay7]
  exact congrArg v (congrArg (ix3 b s) (Fin.ext (by show q.val * 32 + k.val = 32 * q.val + k.val; omega)))

/-- The magnitudes times the binary32 number nearest 1/448. -/
def rowX (w : FVec Ideal S3x2048x144 .f32) : FVec Ideal S3x2048x144x1 .f32 :=
  mulf (shapeCast S3x2048x144x1 w shapeCasts_S3x2048x144_S3x2048x144x1)
    (broadcast S3x2048x144x1 (Scalar.ofBits (F := Ideal) .f32 0x3B124925#32))

/-- A row block's scaled magnitude. -/
theorem rowX_apply (w : FVec Ideal S3x2048x144 .f32) (b : Fin 3) (s : Fin 2048) (q : Fin 144) :
    rowX w (ix4 b s q 0) = w (ix3 b s q) * Ideal.ofBits .f32 0x3B124925#32 := by
  pointwise [rowX]

/-- The tests of the table of powers of two against every row block's number. -/
def rowTicks (x : FVec Ideal S3x2048x144x1 .f32) : IVec S3x2048x144x1x254 32 :=
  select (cmpf .ole (exp2 (sitofp .f32 (subi (iota .tc S3x2048x144x1x254 32 [4] iota_S3x2048x144x1x254_d4_w32) (broadcast S3x2048x144x1x254 126#32))))
      (broadcastTo S3x2048x144x1x254 (shapeCast S3x2048x144x1x1 x shapeCasts_S3x2048x144x1_S3x2048x144x1x1) broadcasts_S3x2048x144x1x1_S3x2048x144x1x254))
    (broadcast S3x2048x144x1x254 1#32) (broadcast S3x2048x144x1x254 0#32)

/-- One test of the table of powers of two, as the count has it. -/
theorem tick_eq (x : EReal) (k : Fin 254) : (if FloatOps.exp2 (F := Ideal) (φ := .f32) (FloatOps.sitofp .f32 (IntOp.subi (BitVec.ofNat 32 k.val) 126#32)) ≤ x then 1#32 else 0#32)
    = tick x k := by
  show _ = Scalar.select (BitVec.ofBool (decide _)) _ _
  by_cases h : FloatOps.exp2 (F := Ideal) (φ := .f32) (FloatOps.sitofp .f32 (IntOp.subi (BitVec.ofNat 32 k.val) 126#32)) ≤ x
  · rw [if_pos h]; simp [h, Scalar.select]
  · rw [if_neg h]; simp [h, Scalar.select]

/-- A test of a row block's number. -/
theorem rowTicks_apply (x : FVec Ideal S3x2048x144x1 .f32) (b : Fin 3) (s : Fin 2048) (q : Fin 144) (k : Fin 254) :
    rowTicks x (ix5 b s q 0 k) = tick (x (ix4 b s q 0)) k := by
  refine Eq.trans ?_ (tick_eq _ _)
  pointwise [rowTicks]

/-- The tests of a row block counted. -/
def rowCount (t : IVec S3x2048x144x1x254 32) : IVec S3x2048x144x1 32 :=
  multiReductionI .add [4] S3x2048x144x1 t 0#32 reduces_S3x2048x144x1x254_S3x2048x144x1 rfl

/-- The count of a row block is the sum of its tests. -/
theorem rowCount_apply (t : IVec S3x2048x144x1x254 32) (b : Fin 3) (s : Fin 2048) (q : Fin 144) :
    rowCount t (ix4 b s q 0) = ∑ k : Fin 254, t (ix5 b s q 0 k) := by
  refine (congrFun (multiReductionI_eq_reduceFold .add t 0#32 reduces_S3x2048x144x1x254_S3x2048x144x1 rfl) _).trans ?_
  refine (reduceFold_add_eq_sum _ (0#32 : BitVec 32) t _).trans ?_
  rw [show (0#32 : BitVec 32) = 0 from rfl, zero_add, Shape.Reduces.sum_fiber_r5_a4]
  rfl

/-- The reference's exponent of a row block is that of its scaled magnitude. -/
theorem pay9_apply (v : FVec Ideal S3x2048x4608 .bf16) (b : Fin 3) (s : Fin 2048) (q : Fin 144) :
    k0_pay9 (F := Ideal) v (ix4 b s q 0)
      = refExp (amx (fun k : Fin 32 => v (ix3 b s ⟨32 * q.val + k.val, by omega⟩)) * Ideal.ofBits .f32 0x3B124925#32) := by
  have h : rowCount (rowTicks (rowX (rowM (k0_pay8 v)))) (ix4 b s q 0)
      = count (amx (fun k : Fin 32 => v (ix3 b s ⟨32 * q.val + k.val, by omega⟩)) * Ideal.ofBits .f32 0x3B124925#32) := by
    rw [rowCount_apply]
    refine Finset.sum_congr rfl fun k _ => ?_
    rw [rowTicks_apply, rowX_apply, rowM_apply]
    simp only [pay8_apply]
  unfold refExp
  rw [← h]
  rfl

/-! ### The exponents of the column blocks -/

/-- The largest magnitude of each column block. -/
def colM (w : FVec Ideal S3x64x32x4608 .f32) : FVec Ideal S3x64x4608 .f32 :=
  multiReduction .maximumf [2] S3x64x4608 (absf w) 0xFF800000#32 reduces_S3x64x32x4608_S3x64x4608 (.inl rfl) rfl

/-- A column block's largest magnitude, entry by entry. -/
theorem colM_apply (w : FVec Ideal S3x64x32x4608 .f32) (b : Fin 3) (g : Fin 64) (n : Fin 4608) :
    colM w (ix3 b g n) = amx fun k : Fin 32 => w (ix4 b g k n) := by
  pointwise [colM]
  rw [negInf32]
  rfl

/-- Entry `k` of column block `g` is row `32 g + k`. -/
theorem pay14_apply (v : FVec Ideal S3x2048x4608 .bf16) (b : Fin 3) (g : Fin 64) (k : Fin 32) (n : Fin 4608) :
    k0_pay14 (F := Ideal) (k0_pay7 v) (ix4 b g k n) = v (ix3 b ⟨32 * g.val + k.val, by omega⟩ n) := by
  pointwise [k0_pay14, k0_pay7]
  exact congrArg v (congrArg (fun z => ix3 b z n) (Fin.ext (by show g.val * 32 + k.val = 32 * g.val + k.val; omega)))

/-- The magnitudes times the binary32 number nearest 1/448. -/
def colX (w : FVec Ideal S3x64x4608 .f32) : FVec Ideal S3x64x1x4608 .f32 :=
  mulf (shapeCast S3x64x1x4608 w shapeCasts_S3x64x4608_S3x64x1x4608)
    (broadcast S3x64x1x4608 (Scalar.ofBits (F := Ideal) .f32 0x3B124925#32))

/-- A column block's scaled magnitude. -/
theorem colX_apply (w : FVec Ideal S3x64x4608 .f32) (b : Fin 3) (g : Fin 64) (n : Fin 4608) :
    colX w (ix4 b g 0 n) = w (ix3 b g n) * Ideal.ofBits .f32 0x3B124925#32 := by
  pointwise [colX]

/-- The tests of the table of powers of two against every column block's number. -/
def colTicks (x : FVec Ideal S3x64x1x4608 .f32) : IVec S3x64x1x4608x254 32 :=
  select (cmpf .ole (exp2 (sitofp .f32 (subi (iota .tc S3x64x1x4608x254 32 [4] iota_S3x64x1x4608x254_d4_w32) (broadcast S3x64x1x4608x254 126#32))))
      (broadcastTo S3x64x1x4608x254 (shapeCast S3x64x1x4608x1 x shapeCasts_S3x64x1x4608_S3x64x1x4608x1) broadcasts_S3x64x1x4608x1_S3x64x1x4608x254))
    (broadcast S3x64x1x4608x254 1#32) (broadcast S3x64x1x4608x254 0#32)

/-- A test of a column block's number. -/
theorem colTicks_apply (x : FVec Ideal S3x64x1x4608 .f32) (b : Fin 3) (g : Fin 64) (n : Fin 4608) (k : Fin 254) :
    colTicks x (ix5 b g 0 n k) = tick (x (ix4 b g 0 n)) k := by
  refine Eq.trans ?_ (tick_eq _ _)
  pointwise [colTicks]

/-- The tests of a column block counted. -/
def colCount (t : IVec S3x64x1x4608x254 32) : IVec S3x64x1x4608 32 :=
  multiReductionI .add [4] S3x64x1x4608 t 0#32 reduces_S3x64x1x4608x254_S3x64x1x4608 rfl

/-- The count of a column block is the sum of its tests. -/
theorem colCount_apply (t : IVec S3x64x1x4608x254 32) (b : Fin 3) (g : Fin 64) (n : Fin 4608) :
    colCount t (ix4 b g 0 n) = ∑ k : Fin 254, t (ix5 b g 0 n k) := by
  refine (congrFun (multiReductionI_eq_reduceFold .add t 0#32 reduces_S3x64x1x4608x254_S3x64x1x4608 rfl) _).trans ?_
  refine (reduceFold_add_eq_sum _ (0#32 : BitVec 32) t _).trans ?_
  rw [show (0#32 : BitVec 32) = 0 from rfl, zero_add, Shape.Reduces.sum_fiber_r5_a4]
  rfl

/-- The reference's exponent of a column block is that of its scaled magnitude. -/
theorem pay15_apply (v : FVec Ideal S3x2048x4608 .bf16) (b : Fin 3) (g : Fin 64) (n : Fin 4608) :
    k0_pay15 (F := Ideal) (k0_pay7 v) (ix4 b g 0 n)
      = refExp (amx (fun k : Fin 32 => v (ix3 b ⟨32 * g.val + k.val, by omega⟩ n)) * Ideal.ofBits .f32 0x3B124925#32) := by
  have h : colCount (colTicks (colX (colM (k0_pay14 (k0_pay7 v))))) (ix4 b g 0 n)
      = count (amx (fun k : Fin 32 => v (ix3 b ⟨32 * g.val + k.val, by omega⟩ n)) * Ideal.ofBits .f32 0x3B124925#32) := by
    rw [colCount_apply]
    refine Finset.sum_congr rfl fun k _ => ?_
    rw [colTicks_apply, colX_apply, colM_apply]
    simp only [pay14_apply]
  unfold refExp
  rw [← h]
  rfl

/-! ### The six results -/

/-- The exponent of row block `q` of row `s` of sequence `b`. -/
def rowE (v : FVec Ideal S3x2048x4608 .bf16) (b : Fin 3) (s : Fin 2048) (q : Fin 144) : BitVec 32 :=
  refExp (amx (fun k : Fin 32 => v (ix3 b s ⟨32 * q.val + k.val, by omega⟩)) * Ideal.ofBits .f32 0x3B124925#32)

/-- The exponent of column block `g` of column `n` of sequence `b`. -/
def colE (v : FVec Ideal S3x2048x4608 .bf16) (b : Fin 3) (g : Fin 64) (n : Fin 4608) : BitVec 32 :=
  refExp (amx (fun k : Fin 32 => v (ix3 b ⟨32 * g.val + k.val, by omega⟩ n)) * Ideal.ofBits .f32 0x3B124925#32)

/-- The row codes from blocks and powers of two. -/
def codesR (w : FVec Ideal S3x2048x144x32 .f32) (l : FVec Ideal S3x2048x144x1 .f32) : FVec Ideal S3x2048x4608 .fp8e4m3 :=
  k0_pay12 (mulf w (broadcastTo S3x2048x144x32 l broadcasts_S3x2048x144x1_S3x2048x144x32)) (Scalar.ofBits .f32 0x43E00000#32) (k0_pay11 (F := Ideal))

/-- A row code is its block's entry scaled and clipped. -/
theorem codesR_apply (w : FVec Ideal S3x2048x144x32 .f32) (l : FVec Ideal S3x2048x144x1 .f32) (b : Fin 3) (s : Fin 2048) (n : Fin 4608) :
    codesR w l (ix3 b s n) = min (Ideal.ofBits .f32 0x43E00000#32) (max (Ideal.ofBits .f32 0xC3E00000#32)
      (w (ix4 b s ⟨n.val / 32, by omega⟩ ⟨n.val % 32, by omega⟩) * l (ix4 b s ⟨n.val / 32, by omega⟩ 0))) := by
  pointwise [codesR, k0_pay12, k0_pay11]

/-- A row code of the reference. -/
theorem pay23_apply (v : FVec Ideal S3x2048x4608 .bf16) (b : Fin 3) (s : Fin 2048) (n : Fin 4608) :
    k0_pay23 (F := Ideal) v (ix3 b s n) = min (Ideal.ofBits .f32 0x43E00000#32) (max (Ideal.ofBits .f32 0xC3E00000#32)
      (v (ix3 b s n) * refLd (0#32 - rowE v b s ⟨n.val / 32, by omega⟩))) := by
  have h : k0_pay23 (F := Ideal) v = codesR (k0_pay8 v) (vld (subi (broadcast S3x2048x144x1 0#32) (k0_pay9 (F := Ideal) v))) := by
    unfold k0_pay23
    rw [ld_all]
    rfl
  rw [h, codesR_apply, vld_apply, pay8_apply]
  have e : (⟨32 * (n.val / 32) + n.val % 32, by omega⟩ : Fin 4608) = n := Fin.ext (by show 32 * (n.val / 32) + n.val % 32 = n.val; omega)
  rw [e]
  unfold rowE
  rw [← pay9_apply]
  rfl

/-- A row scale byte of the reference: the exponent plus 127, as 8 bits. -/
theorem pay24_apply (v : FVec Ideal S3x2048x4608 .bf16) (b : Fin 3) (s : Fin 2048) (q : Fin 144) :
    k0_pay24 (F := Ideal) v (ix3 b s q) = (rowE v b s q + 127#32).setWidth 8 := by
  unfold rowE
  rw [← pay9_apply]
  unfold k0_pay24
  rw [ld_all]
  pointwise [k0_pay13]
  rfl

/-- The column codes from blocks and powers of two. -/
theorem pay17_apply (w : FVec Ideal S3x64x32x4608 .f32) (l : FVec Ideal S3x64x1x4608 .f32) (b : Fin 3) (s : Fin 2048) (n : Fin 4608) :
    k0_pay17 (F := Ideal) w l (ix3 b s n) = min (Ideal.ofBits .f32 0x43E00000#32) (max (Ideal.ofBits .f32 0xC3E00000#32)
      (w (ix4 b ⟨s.val / 32, by omega⟩ ⟨s.val % 32, by omega⟩ n) * l (ix4 b ⟨s.val / 32, by omega⟩ 0 n))) := by
  pointwise [k0_pay17]

/-- A column code of the reference. -/
theorem colCodes_apply (v : FVec Ideal S3x2048x4608 .bf16) (b : Fin 3) (s : Fin 2048) (n : Fin 4608) :
    k0_pay17 (F := Ideal) (k0_pay25 v) (k0_pay27 v) (ix3 b s n)
      = min (Ideal.ofBits .f32 0x43E00000#32) (max (Ideal.ofBits .f32 0xC3E00000#32)
      (v (ix3 b s n) * refLd (0#32 - colE v b ⟨s.val / 32, by omega⟩ n))) := by
  have h1 : k0_pay25 (F := Ideal) v = k0_pay14 (k0_pay7 v) := by
    unfold k0_pay25 k0_pay22
    rw [ld_all]
  have h2 : k0_pay27 (F := Ideal) v = vld (subi (broadcast S3x64x1x4608 0#32) (k0_pay15 (F := Ideal) (k0_pay7 v))) := by
    unfold k0_pay27 k0_pay22
    rw [ld_all]
    rfl
  rw [h1, h2, pay17_apply, vld_apply, pay14_apply]
  have e : (⟨32 * (s.val / 32) + s.val % 32, by omega⟩ : Fin 2048) = s := Fin.ext (by show 32 * (s.val / 32) + s.val % 32 = s.val; omega)
  rw [e]
  unfold colE
  rw [← pay15_apply]
  rfl

/-- A column scale byte of the reference: the exponent plus 127, as 8 bits. -/
theorem pay18_apply (v : FVec Ideal S3x2048x4608 .bf16) (b : Fin 3) (g : Fin 64) (n : Fin 4608) :
    k0_pay18 (k0_pay26 (F := Ideal) v) (ix3 b g n) = (colE v b g n + 127#32).setWidth 8 := by
  unfold colE
  rw [← pay15_apply]
  unfold k0_pay26 k0_pay22
  rw [ld_all]
  pointwise [k0_pay18]
  rfl

/-- Entry `(t, n)` of the reference's row codes. -/
theorem G1_apply (v : FVec Ideal S3x2048x4608 .bf16) (t : Fin 6144) (n : Fin 4608) :
    G1 (F := Ideal) v (ix2 t n) = k0_pay23 (F := Ideal) v (ix3 ⟨t.val / 2048, by omega⟩ ⟨t.val % 2048, by omega⟩ n) := by
  unfold G1
  generalize k0_pay23 (F := Ideal) v = w
  pointwise [k0_pay1]

/-- Entry `(t, q)` of the reference's row scale bytes. -/
theorem G2_apply (v : FVec Ideal S3x2048x4608 .bf16) (t : Fin 6144) (q : Fin 144) :
    G2 (F := Ideal) v (ix2 t q) = k0_pay24 (F := Ideal) v (ix3 ⟨t.val / 2048, by omega⟩ ⟨t.val % 2048, by omega⟩ q) := by
  unfold G2
  generalize k0_pay24 (F := Ideal) v = w
  pointwise [k0_pay2]

/-- Entry `(t, n)` of the reference's column codes. -/
theorem G3_apply (v : FVec Ideal S3x2048x4608 .bf16) (t : Fin 6144) (n : Fin 4608) :
    G3 (F := Ideal) v (ix2 t n) = k0_pay17 (F := Ideal) (k0_pay25 v) (k0_pay27 v) (ix3 ⟨t.val / 2048, by omega⟩ ⟨t.val % 2048, by omega⟩ n) := by
  unfold G3
  generalize k0_pay17 (F := Ideal) (k0_pay25 v) (k0_pay27 v) = w
  pointwise [k0_pay3]

/-- Entry `(t, g, n)` of the reference's column scale bytes. -/
theorem G4_apply (v : FVec Ideal S3x2048x4608 .bf16) (t : Fin 24) (g : Fin 8) (n : Fin 4608) :
    G4 (F := Ideal) v (ix3 t g n) = k0_pay18 (k0_pay26 (F := Ideal) v) (ix3 ⟨t.val / 8, by omega⟩ ⟨t.val % 8 * 8 + g.val, by omega⟩ n) := by
  unfold G4
  generalize k0_pay18 (k0_pay26 (F := Ideal) v) = w
  pointwise [k0_pay4]

/-- Row codes dequantised: the code times the power of two of its block's byte. -/
theorem deqR_apply (c : FVec Ideal S3x2048x4608 .fp8e4m3) (e : IVec S3x2048x144 8) (t : Fin 6144) (n : Fin 4608) :
    k0_pay5 (F := Ideal) (k0_pay19 c e) (ix2 t n)
      = c (ix3 ⟨t.val / 2048, by omega⟩ ⟨t.val % 2048, by omega⟩ n)
        * pow2 (e (ix3 ⟨t.val / 2048, by omega⟩ ⟨t.val % 2048, by omega⟩ ⟨n.val / 32, by omega⟩)) := by
  pointwise [k0_pay5, k0_pay19]
  have h := refPow2_term (e (ix3 ⟨t.val / 2048, by omega⟩ ⟨t.val % 2048, by omega⟩ ⟨n.val / 32, by omega⟩)) (c (ix3 ⟨t.val / 2048, by omega⟩ ⟨t.val % 2048, by omega⟩ n)) 1
  rw [mul_one, mul_one] at h
  exact h

/-- Column codes dequantised: the code times the power of two of its block's byte. -/
theorem deqC_apply (c : FVec Ideal S3x64x32x4608 .bf16) (x : IVec S3x64x1x4608 32) (t : Fin 6144) (n : Fin 4608) :
    k0_pay6 (F := Ideal) c (k0_pay21 x) (ix2 t n)
      = c (ix4 ⟨t.val / 2048, by omega⟩ ⟨t.val / 32 % 64, by omega⟩ ⟨t.val % 32, by omega⟩ n)
        * pow2 (k0_pay18 x (ix3 ⟨t.val / 2048, by omega⟩ ⟨t.val / 32 % 64, by omega⟩ n)) := by
  unfold k0_pay21
  generalize k0_pay18 x = e
  pointwise [k0_pay6]
  have h := refPow2_term (e (ix3 ⟨t.val / 2048, by omega⟩ ⟨t.val / 32 % 64, by omega⟩ n)) (c (ix4 ⟨t.val / 2048, by omega⟩ ⟨t.val / 32 % 64, by omega⟩ ⟨t.val % 32, by omega⟩ n)) 1
  rw [mul_one, mul_one] at h
  exact h

/-- The column codes cut into blocks are the column codes. -/
theorem pay20_apply (w : FVec Ideal S3x64x32x4608 .f32) (l : FVec Ideal S3x64x1x4608 .f32) (t : Fin 6144) (n : Fin 4608) :
    k0_pay20 (F := Ideal) w l (ix4 ⟨t.val / 2048, by omega⟩ ⟨t.val / 32 % 64, by omega⟩ ⟨t.val % 32, by omega⟩ n)
      = k0_pay17 (F := Ideal) w l (ix3 ⟨t.val / 2048, by omega⟩ ⟨t.val % 2048, by omega⟩ n) := by
  unfold k0_pay20
  generalize k0_pay17 (F := Ideal) w l = z
  pointwise
  exact congrArg z (congrArg (fun k => ix3 _ k n) (Fin.ext (by show t.val / 32 % 64 * 32 + t.val % 32 = t.val % 2048; omega)))

/-- Entry `(t, n)` of the reference's dequantised row codes: the code times the power of two its scale byte stands for. -/
theorem G5_apply (v : FVec Ideal S3x2048x4608 .bf16) (t : Fin 6144) (n : Fin 4608) :
    G5 (F := Ideal) v (ix2 t n) = G1 (F := Ideal) v (ix2 t n) * pow2 (G2 (F := Ideal) v (ix2 t ⟨n.val / 32, by omega⟩)) := by
  rw [G1_apply, G2_apply]
  unfold G5
  exact deqR_apply _ _ _ _

/-- Entry `(t, n)` of the reference's dequantised column codes: the code times the power of two its scale byte stands for. -/
theorem G6_apply (v : FVec Ideal S3x2048x4608 .bf16) (t : Fin 6144) (n : Fin 4608) :
    G6 (F := Ideal) v (ix2 t n) = G3 (F := Ideal) v (ix2 t n)
      * pow2 ((colE v ⟨t.val / 2048, by omega⟩ ⟨t.val / 32 % 64, by omega⟩ n + 127#32).setWidth 8) := by
  rw [G3_apply, ← pay18_apply]
  unfold G6
  rw [deqC_apply, pay20_apply]

end Cert.QuantRefIdeal.Value

end
-- ==== Proof.QuantClaim.lean ====
module

public import proofs.«01_k».proof.Defs
public import proofs.«01_k».proof.Proof.QuantIdealValue
public import proofs.«01_k».proof.Proof.QuantRefValue
public import proofs.«01_k».proof.Proof.Gen.Pre_dy_finite
public import Idealize.ShloMosaic.Lib.ReduceAll

@[expose] public section

set_option maxRecDepth 16384

noncomputable section

namespace Cert.QuantClaim

open Idealize.ShloMosaic Idealize.ShloMosaic.TcCoe Idealize.SL.Sem Cert.Scale Cert.QuantScale
open Cert.QuantIdeal (S3x2048x4608)
open Cert.QuantIdeal.Hand (amx byteOf codeOf pw rowByteG colByteG RC RS CC CS RD CD)
open Cert.QuantRefIdeal.Value (rowE colE G1 G2 G3 G4 G5 G6)

/-- Every entry is finite: its magnitude is at most the largest finite bfloat16 number. -/
def AllFinite (v : FVec Ideal S3x2048x4608 .bf16) : Prop :=
  ∀ i, FloatOps.absf (F := Ideal) (φ := .bf16) (v i) ≤ Ideal.ofBits .bf16 0x7F7F#16

/-- The precondition says that every entry is finite. -/
theorem finite_of_pre (v : FVec Ideal S3x2048x4608 .bf16)
    (h : Cert.Pre_dy_finite.fn (F := Ideal) v = fun _ => 1#1) : AllFinite v := by
  intro i
  have e := Host.reduce_andi_all _ _ _ _ _ (congrFun h ix0) i
  have e' : BitVec.ofBool (decide (FloatOps.absf (F := Ideal) (φ := .bf16) (v i) ≤ Ideal.ofBits .bf16 0x7F7F#16)) = 1#1 := e
  by_contra hn
  rw [decide_eq_false hn] at e'
  exact absurd e' (by decide)

/-- A code under the kernel's byte is the code under the reference's exponent. -/
theorem code_eq (v x : EReal) (h : Ok (x * Ideal.ofBits .f32 0x3B124925#32)) :
    codeOf v (byteOf x) = min (Ideal.ofBits .f32 0x43E00000#32) (max (Ideal.ofBits .f32 0xC3E00000#32)
      (v * refLd (0#32 - refExp (x * Ideal.ofBits .f32 0x3B124925#32)))) := by
  unfold codeOf byteOf
  rw [inverse_eq _ h]

/-- The exponent of column block `g` of all 192 is that of its place in its sequence. -/
theorem colE_of (v : FVec Ideal S3x2048x4608 .bf16) (g : Fin 192) (n : Fin 4608) (b : Fin 3) (s : Fin 64) (hb : g.val / 64 = b.val) (hs : g.val % 64 = s.val) :
    refExp (amx (fun k : Fin 32 => v (ix3 ⟨g.val / 64, by omega⟩ ⟨32 * (g.val % 64) + k.val, by omega⟩ n)) * Ideal.ofBits .f32 0x3B124925#32)
      = colE v b s n := by
  exact congrArg (fun a => refExp (amx a * Ideal.ofBits .f32 0x3B124925#32)) (funext fun k => congrArg v (congrArg₂ (fun a b => ix3 a b n)
    (Fin.ext hb) (Fin.ext (by show 32 * (g.val % 64) + k.val = 32 * s.val + k.val; rw [hs]))))

variable (v : FVec Ideal S3x2048x4608 .bf16) (hv : AllFinite v)
include hv

/-- The row blocks' numbers are in the range the exponent search is right for. -/
theorem okRow (b : Fin 3) (s : Fin 2048) (q : Fin 144) :
    Ok (amx (fun k : Fin 32 => v (ix3 b s ⟨32 * q.val + k.val, by omega⟩)) * Ideal.ofBits .f32 0x3B124925#32) :=
  ok_amx _ fun _ => hv _

/-- The column blocks' numbers are, too. -/
theorem okCol (b : Fin 3) (g : Fin 64) (n : Fin 4608) :
    Ok (amx (fun k : Fin 32 => v (ix3 b ⟨32 * g.val + k.val, by omega⟩ n)) * Ideal.ofBits .f32 0x3B124925#32) :=
  ok_amx _ fun _ => hv _

/-- For a finite dy the kernel's row codes are the reference's. -/
theorem eq1 : RC v = G1 (F := Ideal) v := by
  funext i
  idx_vars i
  refine Eq.trans ?_ (Cert.QuantRefIdeal.Value.G1_apply v i0 i1).symm
  rw [Cert.QuantRefIdeal.Value.pay23_apply]
  exact code_eq _ _ (okRow v hv _ _ _)

/-- For a finite dy the kernel's row scale bytes are the reference's. -/
theorem eq2 : RS v = G2 (F := Ideal) v := by
  funext i
  idx_vars i
  refine Eq.trans ?_ (Cert.QuantRefIdeal.Value.G2_apply v i0 i1).symm
  rw [Cert.QuantRefIdeal.Value.pay24_apply]
  exact congrArg (BitVec.setWidth 8) (byte_eq _ (okRow v hv _ _ _)).1

/-- For a finite dy the kernel's column codes are the reference's. -/
theorem eq3 : CC v = G3 (F := Ideal) v := by
  funext i
  idx_vars i
  refine Eq.trans ?_ (Cert.QuantRefIdeal.Value.G3_apply v i0 i1).symm
  rw [Cert.QuantRefIdeal.Value.colCodes_apply]
  refine Eq.trans (code_eq _ _ (ok_amx _ fun _ => hv _)) ?_
  rw [← colE_of v ⟨i0.val / 32, by omega⟩ i1 ⟨i0.val / 2048, by omega⟩ ⟨i0.val % 2048 / 32, by omega⟩
    (by show i0.val / 32 / 64 = i0.val / 2048; omega) (by show i0.val / 32 % 64 = i0.val % 2048 / 32; omega)]
  rfl

/-- For a finite dy the kernel's column scale bytes are the reference's. -/
theorem eq4 : CS v = G4 (F := Ideal) v := by
  funext i
  idx_vars i
  refine Eq.trans ?_ (Cert.QuantRefIdeal.Value.G4_apply v i0 i1 i2).symm
  rw [Cert.QuantRefIdeal.Value.pay18_apply]
  refine congrArg (BitVec.setWidth 8) ((byte_eq _ (ok_amx _ fun _ => hv _)).1.trans ?_)
  exact congrArg (· + 127#32) (colE_of v ⟨i0.val * 8 + i1.val, by omega⟩ i2 _ _
    (by show (i0.val * 8 + i1.val) / 64 = i0.val / 8; omega) (by show (i0.val * 8 + i1.val) % 64 = i0.val % 8 * 8 + i1.val; omega))

/-- For a finite dy the kernel's dequantised row codes are the reference's. -/
theorem eq5 : RD v = G5 (F := Ideal) v := by
  funext i
  idx_vars i
  refine Eq.trans ?_ (Cert.QuantRefIdeal.Value.G5_apply v i0 i1).symm
  rw [← eq1 v hv, Cert.QuantRefIdeal.Value.G2_apply, Cert.QuantRefIdeal.Value.pay24_apply]
  exact congrArg (RC v (ix2 i0 i1) * ·) (decode_eq _ (okRow v hv _ _ _))

/-- For a finite dy the kernel's dequantised column codes are the reference's. -/
theorem eq6 : CD v = G6 (F := Ideal) v := by
  funext i
  idx_vars i
  refine Eq.trans ?_ (Cert.QuantRefIdeal.Value.G6_apply v i0 i1).symm
  rw [← eq3 v hv]
  refine congrArg (CC v (ix2 i0 i1) * ·) ((decode_eq _ (ok_amx _ fun _ => hv _)).trans ?_)
  exact congrArg (fun e : BitVec 32 => pow2 ((e + 127#32).setWidth 8)) (colE_of v ⟨i0.val / 32, by omega⟩ i1 _ _
    (by show i0.val / 32 / 64 = i0.val / 2048; omega) (by show i0.val / 32 % 64 = i0.val / 32 % 64; omega))

omit hv in
/-- For a finite dy the quantise kernel and its reference end with equal results over the extended reals. -/
theorem algebraic : Cert.algebraic_QuantIdeal_QuantRefIdeal_pre_dy_finite (hQuantIdeal := Cert.QuantIdeal.Gen.facts)
    (hQuantRefIdeal := Cert.QuantRefIdeal.Gen.facts) (hPre_dy_finite := Cert.Pre_dy_finite.Gen.facts) := by
  intro m g m' g' hpre hag
  have hf : ∀ c, AllFinite (Cert.QuantIdeal.Hand.DY m c) := fun c => finite_of_pre _ (hpre c)
  refine ⟨fun c => RC (Cert.QuantIdeal.Hand.DY m c), fun c => RS (Cert.QuantIdeal.Hand.DY m c),
    fun c => CC (Cert.QuantIdeal.Hand.DY m c), fun c => CS (Cert.QuantIdeal.Hand.DY m c),
    fun c => RD (Cert.QuantIdeal.Hand.DY m c), fun c => CD (Cert.QuantIdeal.Hand.DY m c), ?_, ?_⟩
  · exact Cert.QuantIdeal.Hand.run_values m g
  · refine (θ_run _ _ _).mono (fun r h c => ?_) (Cert.QuantRefIdeal.Value.run m' g')
    obtain ⟨h0, h1, h2, h3, h4, h5, h6⟩ := h c
    have a0 := hag c
    refine ⟨h0.trans ?_, h1.trans ?_, h2.trans ?_, h3.trans ?_, h4.trans ?_, h5.trans ?_, h6⟩ <;> rw [a0]
    · exact (eq1 _ (hf c)).symm
    · exact (eq2 _ (hf c)).symm
    · exact (eq3 _ (hf c)).symm
    · exact (eq4 _ (hf c)).symm
    · exact (eq5 _ (hf c)).symm
    · exact (eq6 _ (hf c)).symm

end Cert.QuantClaim

end
-- ==== Proof.lean ====
module

public import proofs.«01_k».proof.Defs
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradIdeal.Value
public import proofs.«01_k».proof.Proof.Gen.WgradRefIdeal
public import proofs.«01_k».proof.Proof.Gen.WgradRefIdeal.Skeleton
public import proofs.«01_k».proof.Proof.Gen.WgradRefIdeal.Launch
public import proofs.«01_k».proof.Proof.Gen.WgradRefIdeal.Points
public import proofs.«01_k».proof.Proof.Gen.WgradRefIdeal.Frame
public import proofs.«01_k».proof.Proof.Gen.WgradRefIdeal.Value
public import proofs.«01_k».proof.Proof.Gen.Dgrad
public import proofs.«01_k».proof.Proof.Gen.Dgrad.Skeleton
public import proofs.«01_k».proof.Proof.Gen.Dgrad.Launch
public import proofs.«01_k».proof.Proof.Gen.Dgrad.Points
public import proofs.«01_k».proof.Proof.Gen.Dgrad.Frame
public import proofs.«01_k».proof.Proof.Gen.DgradIdeal
public import proofs.«01_k».proof.Proof.Gen.DgradIdeal.Skeleton
public import proofs.«01_k».proof.Proof.Gen.DgradIdeal.Launch
public import proofs.«01_k».proof.Proof.Gen.DgradIdeal.Points
public import proofs.«01_k».proof.Proof.Gen.DgradIdeal.Frame
public import proofs.«01_k».proof.Proof.Gen.DgradIdeal.Value
public import proofs.«01_k».proof.Proof.Gen.DgradRefIdeal
public import proofs.«01_k».proof.Proof.Gen.DgradRefIdeal.Skeleton
public import proofs.«01_k».proof.Proof.Gen.DgradRefIdeal.Launch
public import proofs.«01_k».proof.Proof.Gen.DgradRefIdeal.Points
public import proofs.«01_k».proof.Proof.Gen.DgradRefIdeal.Frame
public import proofs.«01_k».proof.Proof.Gen.DgradRefIdeal.Value
public import proofs.«01_k».proof.Proof.WgradClaim
public import proofs.«01_k».proof.Proof.DgradClaim
public import proofs.«01_k».proof.Proof.QuantFrame
public import proofs.«01_k».proof.Proof.QuantClaim
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import proofs.«01_k».proof.Proof.Gen.QuantRefIdeal.Value
public import proofs.«01_k».proof.Proof.Gen.Pre_dy_finite
public import Idealize.ShloMosaic.Adequacy
public import Idealize.ShloMosaic.Init

@[expose] public section

noncomputable section

namespace Cert.Proof

open Idealize.ShloMosaic Idealize.SL.Sem Cert.Wgrad

/-- All the claims of the three calls: the frames, that idealising preserves each kernel, and that each kernel and its reference agree. -/
theorem claim : Cert.Claim := ⟨Cert.Wgrad.Gen.facts, Cert.WgradIdeal.Gen.facts, Cert.WgradRefIdeal.Gen.facts, Cert.Dgrad.Gen.facts, Cert.DgradIdeal.Gen.facts, Cert.DgradRefIdeal.Gen.facts,
  Cert.Quant.Gen.facts, Cert.QuantIdeal.Gen.facts, Cert.QuantRefIdeal.Gen.facts, Cert.Pre_dy_finite.Gen.facts,
  fun m ρ _ => Cert.Wgrad.Gen.frame m ρ, fun m ρ _ => Cert.WgradIdeal.Gen.frame m ρ,
  fun m ρ _ => Cert.WgradRefIdeal.Gen.frame m ρ, fun m ρ _ => Cert.Dgrad.Gen.frame m ρ,
  fun m ρ _ => Cert.DgradIdeal.Gen.frame m ρ, fun m ρ _ => Cert.DgradRefIdeal.Gen.frame m ρ,
  fun m ρ _ => Cert.QuantFrame.frame m ρ, fun m ρ _ => Cert.QuantIdeal.Hand.frame m ρ,
  fun m ρ _ => Cert.QuantIdeal.Hand.frame m ρ, fun m ρ _ => Cert.QuantRefIdeal.Gen.frame m ρ,
  fun m ρ _ => Cert.QuantRefIdeal.Gen.frame m ρ,
  trivial, Cert.WgradClaim.algebraic, trivial, Cert.DgradClaim.algebraic, trivial, Cert.QuantClaim.algebraic⟩

end Cert.Proof

end
